-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelRkv (m : (ℓ : Loc Cert.KernelRkv.nD Cert.KernelRkv.τ Cert.KernelRkv.sig) → Buf (Elt Bits) ℓ) : Prop :=
  True

def Pre_KernelRkvIdeal (m : (ℓ : Loc Cert.KernelRkvIdeal.nD Cert.KernelRkvIdeal.τ Cert.KernelRkvIdeal.sig) → Buf (Elt Ideal) ℓ) : Prop :=
  True

def Pre_ReferenceRkvIdeal (m : (ℓ : Loc Cert.ReferenceRkvIdeal.nD Cert.ReferenceRkvIdeal.τ Cert.ReferenceRkvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelRkv [hKernelRkv : Cert.KernelRkv.Facts] : Prop :=
  ∀ (m : (ℓ : Loc Cert.KernelRkv.nD Cert.KernelRkv.τ Cert.KernelRkv.sig) → Buf (Elt Bits) ℓ) (g : Dev Cert.KernelRkv.nD → PrngReg), Pre_KernelRkv m →
    θ_run (Cert.KernelRkv.defs (F := Bits)) (onTc (τ := Cert.KernelRkv.τ) (Cert.KernelRkv.main (F := Bits))) ⟨m, fun _ => 0, g⟩ (fun r => (∀ c : Dev Cert.KernelRkv.nD,
      r.2.mem ((c.tc : Thread Cert.KernelRkv.nD Cert.KernelRkv.τ).loc Cert.KernelRkv.main_arg0) = m ((c.tc : Thread Cert.KernelRkv.nD Cert.KernelRkv.τ).loc Cert.KernelRkv.main_arg0)
      ∧ r.2.mem ((c.tc : Thread Cert.KernelRkv.nD Cert.KernelRkv.τ).loc Cert.KernelRkv.main_arg1) = m ((c.tc : Thread Cert.KernelRkv.nD Cert.KernelRkv.τ).loc Cert.KernelRkv.main_arg1))
      ∧ r.2.sem = fun _ => 0)

def quiescent_KernelRkvIdeal [hKernelRkvIdeal : Cert.KernelRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg), Pre_KernelRkvIdeal m →
    θ_run (Cert.KernelRkvIdeal.defs (F := Ideal)) (onTc (τ := Cert.KernelRkvIdeal.τ) (Cert.KernelRkvIdeal.main (F := Ideal))) ⟨m, fun _ => 0, g⟩ (fun r => (∀ c : Dev Cert.KernelRkvIdeal.nD,
      r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
      ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1))
      ∧ r.2.sem = fun _ => 0)

def quiescent_ReferenceRkvIdeal [hReferenceRkvIdeal : Cert.ReferenceRkvIdeal.Facts] : Prop :=
  ∀ (m : (ℓ : Loc Cert.ReferenceRkvIdeal.nD Cert.ReferenceRkvIdeal.τ Cert.ReferenceRkvIdeal.sig) → Buf (Elt Ideal) ℓ) (g : Dev Cert.ReferenceRkvIdeal.nD → PrngReg), Pre_ReferenceRkvIdeal m →
    θ_run (Cert.ReferenceRkvIdeal.defs (F := Ideal)) (onTc (τ := Cert.ReferenceRkvIdeal.τ) (Cert.ReferenceRkvIdeal.main (F := Ideal))) ⟨m, fun _ => 0, g⟩ (fun r => (∀ c : Dev Cert.ReferenceRkvIdeal.nD,
      r.2.mem ((c.tc : Thread Cert.ReferenceRkvIdeal.nD Cert.ReferenceRkvIdeal.τ).loc Cert.ReferenceRkvIdeal.main_arg0) = m ((c.tc : Thread Cert.ReferenceRkvIdeal.nD Cert.ReferenceRkvIdeal.τ).loc Cert.ReferenceRkvIdeal.main_arg0)
      ∧ r.2.mem ((c.tc : Thread Cert.ReferenceRkvIdeal.nD Cert.ReferenceRkvIdeal.τ).loc Cert.ReferenceRkvIdeal.main_arg1) = m ((c.tc : Thread Cert.ReferenceRkvIdeal.nD Cert.ReferenceRkvIdeal.τ).loc Cert.ReferenceRkvIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v0)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v0) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v3) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelRkv_KernelRkvIdeal : Prop :=
  True

def algebraic_KernelRkvIdeal_ReferenceRkvIdeal [hKernelRkvIdeal : Cert.KernelRkvIdeal.Facts] [hReferenceRkvIdeal : Cert.ReferenceRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg)
    (m' : (ℓ : Loc Cert.ReferenceRkvIdeal.nD Cert.ReferenceRkvIdeal.τ Cert.ReferenceRkvIdeal.sig) → Buf (Elt Ideal) ℓ) (g' : Dev Cert.ReferenceRkvIdeal.nD → PrngReg), Pre_KernelRkvIdeal m →
    (∀ c : Dev Cert.KernelRkvIdeal.nD,
      m' ((c.tc : Thread Cert.ReferenceRkvIdeal.nD Cert.ReferenceRkvIdeal.τ).loc Cert.ReferenceRkvIdeal.main_arg0) = m ((c.tc : Thread Cert.KernelRkvIdeal.nD Cert.KernelRkvIdeal.τ).loc Cert.KernelRkvIdeal.main_arg0)
      ∧ m' ((c.tc : Thread Cert.ReferenceRkvIdeal.nD Cert.ReferenceRkvIdeal.τ).loc Cert.ReferenceRkvIdeal.main_arg1) = m ((c.tc : Thread Cert.KernelRkvIdeal.nD Cert.KernelRkvIdeal.τ).loc Cert.KernelRkvIdeal.main_arg1)) →
    ∃ (v0 : (c : Dev Cert.KernelRkvIdeal.nD) → Buf (Elt Ideal) ((c.tc : Thread Cert.KernelRkvIdeal.nD Cert.KernelRkvIdeal.τ).loc Cert.KernelRkvIdeal.main_v0)) (v1 : (c : Dev Cert.KernelRkvIdeal.nD) → Buf (Elt Ideal) ((c.tc : Thread Cert.KernelRkvIdeal.nD Cert.KernelRkvIdeal.τ).loc Cert.KernelRkvIdeal.main_v1)) (v2 : (c : Dev Cert.KernelRkvIdeal.nD) → Buf (Elt Ideal) ((c.tc : Thread Cert.KernelRkvIdeal.nD Cert.KernelRkvIdeal.τ).loc Cert.KernelRkvIdeal.main_v2)),
      θ_run (Cert.KernelRkvIdeal.defs (F := Ideal)) (onTc (τ := Cert.KernelRkvIdeal.τ) (Cert.KernelRkvIdeal.main (F := Ideal))) ⟨m, fun _ => 0, g⟩ (fun r => ∀ c : Dev Cert.KernelRkvIdeal.nD,
          r.2.mem ((c.tc : Thread Cert.KernelRkvIdeal.nD Cert.KernelRkvIdeal.τ).loc Cert.KernelRkvIdeal.main_v0) = v0 c
          ∧ r.2.mem ((c.tc : Thread Cert.KernelRkvIdeal.nD Cert.KernelRkvIdeal.τ).loc Cert.KernelRkvIdeal.main_v1) = v1 c
          ∧ r.2.mem ((c.tc : Thread Cert.KernelRkvIdeal.nD Cert.KernelRkvIdeal.τ).loc Cert.KernelRkvIdeal.main_v2) = v2 c
          ∧ r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
          ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1))
      ∧ θ_run (Cert.ReferenceRkvIdeal.defs (F := Ideal)) (onTc (τ := Cert.ReferenceRkvIdeal.τ) (Cert.ReferenceRkvIdeal.main (F := Ideal))) ⟨m', fun _ => 0, g'⟩ (fun r => ∀ c : Dev Cert.ReferenceRkvIdeal.nD,
          r.2.mem ((c.tc : Thread Cert.ReferenceRkvIdeal.nD Cert.ReferenceRkvIdeal.τ).loc Cert.ReferenceRkvIdeal.main_v4) = v0 c
          ∧ r.2.mem ((c.tc : Thread Cert.ReferenceRkvIdeal.nD Cert.ReferenceRkvIdeal.τ).loc Cert.ReferenceRkvIdeal.main_v6) = v1 c
          ∧ r.2.mem ((c.tc : Thread Cert.ReferenceRkvIdeal.nD Cert.ReferenceRkvIdeal.τ).loc Cert.ReferenceRkvIdeal.main_v8) = v2 c
          ∧ r.2.mem ((c.tc : Thread Cert.ReferenceRkvIdeal.nD Cert.ReferenceRkvIdeal.τ).loc Cert.ReferenceRkvIdeal.main_arg0) = m' ((c.tc : Thread Cert.ReferenceRkvIdeal.nD Cert.ReferenceRkvIdeal.τ).loc Cert.ReferenceRkvIdeal.main_arg0)
          ∧ r.2.mem ((c.tc : Thread Cert.ReferenceRkvIdeal.nD Cert.ReferenceRkvIdeal.τ).loc Cert.ReferenceRkvIdeal.main_arg1) = m' ((c.tc : Thread Cert.ReferenceRkvIdeal.nD Cert.ReferenceRkvIdeal.τ).loc Cert.ReferenceRkvIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)) →
    ∃ (v0 : (c : Dev Cert.KernelNormIdeal.nD) → Buf (Elt Ideal) ((c.tc : Thread Cert.KernelNormIdeal.nD Cert.KernelNormIdeal.τ).loc Cert.KernelNormIdeal.main_v6_0)) (v1 : (c : Dev Cert.KernelNormIdeal.nD) → Buf (Elt Ideal) ((c.tc : Thread Cert.KernelNormIdeal.nD Cert.KernelNormIdeal.τ).loc Cert.KernelNormIdeal.main_v6_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v6_0) = v0 c
          ∧ r.2.mem ((c.tc : Thread Cert.KernelNormIdeal.nD Cert.KernelNormIdeal.τ).loc Cert.KernelNormIdeal.main_v6_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v27) = v0 c
          ∧ r.2.mem ((c.tc : Thread Cert.ReferenceNormIdeal.nD Cert.ReferenceNormIdeal.τ).loc Cert.ReferenceNormIdeal.main_v28) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)) →
    ∃ (v0 : (c : Dev Cert.KernelLastIdeal.nD) → Buf (Elt Ideal) ((c.tc : Thread Cert.KernelLastIdeal.nD Cert.KernelLastIdeal.τ).loc Cert.KernelLastIdeal.main_v7)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v7) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v29) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v12_0)) (v1 : (c : Dev Cert.KernelMixIdeal.nD) → Buf (Elt Ideal) ((c.tc : Thread Cert.KernelMixIdeal.nD Cert.KernelMixIdeal.τ).loc Cert.KernelMixIdeal.main_v12_1)) (v2 : (c : Dev Cert.KernelMixIdeal.nD) → Buf (Elt Ideal) ((c.tc : Thread Cert.KernelMixIdeal.nD Cert.KernelMixIdeal.τ).loc Cert.KernelMixIdeal.main_v12_2)) (v3 : (c : Dev Cert.KernelMixIdeal.nD) → Buf (Elt Ideal) ((c.tc : Thread Cert.KernelMixIdeal.nD Cert.KernelMixIdeal.τ).loc Cert.KernelMixIdeal.main_v12_3)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v12_0) = v0 c
          ∧ r.2.mem ((c.tc : Thread Cert.KernelMixIdeal.nD Cert.KernelMixIdeal.τ).loc Cert.KernelMixIdeal.main_v12_1) = v1 c
          ∧ r.2.mem ((c.tc : Thread Cert.KernelMixIdeal.nD Cert.KernelMixIdeal.τ).loc Cert.KernelMixIdeal.main_v12_2) = v2 c
          ∧ r.2.mem ((c.tc : Thread Cert.KernelMixIdeal.nD Cert.KernelMixIdeal.τ).loc Cert.KernelMixIdeal.main_v12_3) = v3 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v16) = v0 c
          ∧ r.2.mem ((c.tc : Thread Cert.ReferenceMixIdeal.nD Cert.ReferenceMixIdeal.τ).loc Cert.ReferenceMixIdeal.main_v21) = v1 c
          ∧ r.2.mem ((c.tc : Thread Cert.ReferenceMixIdeal.nD Cert.ReferenceMixIdeal.τ).loc Cert.ReferenceMixIdeal.main_v25) = v2 c
          ∧ r.2.mem ((c.tc : Thread Cert.ReferenceMixIdeal.nD Cert.ReferenceMixIdeal.τ).loc Cert.ReferenceMixIdeal.main_v35) = v3 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelQkv : Cert.KernelQkv.Facts) (hKernelQkvIdeal : Cert.KernelQkvIdeal.Facts) (hReferenceQkvIdeal : Cert.ReferenceQkvIdeal.Facts) (hKernelRkv : Cert.KernelRkv.Facts) (hKernelRkvIdeal : Cert.KernelRkvIdeal.Facts) (hReferenceRkvIdeal : Cert.ReferenceRkvIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelLast : Cert.KernelLast.Facts) (hKernelLastIdeal : Cert.KernelLastIdeal.Facts) (hReferenceLastIdeal : Cert.ReferenceLastIdeal.Facts) (hKernelMix : Cert.KernelMix.Facts) (hKernelMixIdeal : Cert.KernelMixIdeal.Facts) (hReferenceMixIdeal : Cert.ReferenceMixIdeal.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelRkv (hKernelRkv := hKernelRkv)
    ∧ quiescent_KernelRkvIdeal (hKernelRkvIdeal := hKernelRkvIdeal)
    ∧ quiescent_ReferenceRkvIdeal (hReferenceRkvIdeal := hReferenceRkvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelRkv_KernelRkvIdeal
    ∧ algebraic_KernelRkvIdeal_ReferenceRkvIdeal (hKernelRkvIdeal := hKernelRkvIdeal) (hReferenceRkvIdeal := hReferenceRkvIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelLast_KernelLastIdeal
    ∧ algebraic_KernelLastIdeal_ReferenceLastIdeal (hKernelLastIdeal := hKernelLastIdeal) (hReferenceLastIdeal := hReferenceLastIdeal)
    ∧ preserves_KernelMix_KernelMixIdeal
    ∧ algebraic_KernelMixIdeal_ReferenceMixIdeal (hKernelMixIdeal := hKernelMixIdeal) (hReferenceMixIdeal := hReferenceMixIdeal)
-- ==== Kernel.lean ====
abbrev S4x2064x12288 : Shape := ⟨3, ![4, 2064, 12288]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S4x2064x4096 : Shape := ⟨3, ![4, 2064, 4096]⟩
abbrev S1x256x1024 : Shape := ⟨3, ![1, 256, 1024]⟩
abbrev S1x2064x1024 : Shape := ⟨3, ![1, 2064, 1024]⟩
abbrev S8x256x128 : Shape := ⟨3, ![8, 256, 128]⟩
abbrev S1x256x128 : Shape := ⟨3, ![1, 256, 128]⟩
abbrev S256x128 : Shape := ⟨2, ![256, 128]⟩
abbrev S1x16x128 : Shape := ⟨3, ![1, 16, 128]⟩
abbrev S16x128 : Shape := ⟨2, ![16, 128]⟩
abbrev S112x128 : Shape := ⟨2, ![112, 128]⟩
abbrev S128x128 : Shape := ⟨2, ![128, 128]⟩
abbrev S2048x128 : Shape := ⟨2, ![2048, 128]⟩
abbrev S2048x256 : Shape := ⟨2, ![2048, 256]⟩
abbrev S4096x128 : Shape := ⟨2, ![4096, 128]⟩
abbrev S4096x256 : Shape := ⟨2, ![4096, 256]⟩
abbrev S256x1024 : Shape := ⟨2, ![256, 1024]⟩

abbrev nBuf : Space → Nat
  | .hbm => 39
  | .vmem => 11
  | .smem => 0
  | _ => 0

abbrev bufTy : (tb : Table) → Fin (tcTables nBuf tb) → BufTy
  | .hbm, ⟨0, _⟩ => ⟨S4x2064x12288, .bf16⟩
  | .hbm, ⟨1, _⟩ => ⟨S256, .i32⟩
  | .hbm, ⟨2, _⟩ => ⟨S256x1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S_, .i32⟩
  | .hbm, ⟨18, _⟩ => ⟨S_, .i1⟩
  | .hbm, ⟨19, _⟩ => ⟨S256x1, .i1⟩
  | .hbm, ⟨20, _⟩ => ⟨S256x1, .i1⟩
  | .hbm, ⟨21, _⟩ => ⟨S256x1, .i1⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i1⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S_, .i1⟩
  | .hbm, ⟨34, _⟩ => ⟨S256x256, .i1⟩
  | .hbm, ⟨35, _⟩ => ⟨S256x256, .i1⟩
  | .hbm, ⟨36, _⟩ => ⟨S256x256, .i1⟩
  | .hbm, ⟨37, _⟩ => ⟨S256x256, .bf16⟩
  | .hbm, ⟨38, _⟩ => ⟨S4x2064x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2064x1024, .bf16⟩
  | .local _ .vmem, ⟨3, _⟩ => ⟨S1x2064x1024, .bf16⟩
  | .local _ .vmem, ⟨4, _⟩ => ⟨S1x2064x1024, .bf16⟩
  | .local _ .vmem, ⟨5, _⟩ => ⟨S1x2064x1024, .bf16⟩
  | .local _ .vmem, ⟨6, _⟩ => ⟨S256x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S8x256x128, .f32⟩
  | .local _ .vmem, ⟨10, _⟩ => ⟨S8x256x128, .f32⟩
  | _, _ => ⟨S4x2064x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 9], ![false, false, false]⟩

def k0_cond2 (i : grid0.Coords) : BitVec 1 :=
  let arg2 : BitVec 32 := BitVec.ofNat 32 (i 2).val
  let c8_i32_33 : BitVec 32 := 8#32
  let v37 : BitVec 1 := Scalar.cmpi .ne arg2 c8_i32_33
  let v38 : BitVec 32 := Scalar.extui v37
  let c0_i32_34 : BitVec 32 := 0#32
  let v39 : BitVec 1 := Scalar.cmpi .ne v38 c0_i32_34
  v39

def k0_mult1 (i : grid0.Coords) : BitVec 32 :=
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  v115
def k0_off1 (i : grid0.Coords) : Fin 3 → Nat :=
  let c0_97 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v120 : Index := Scalar.indexCast v116
  let c0_98 : Index := 0#32
  ![0, v120.toNat, 0]
def k0_off2 (i : grid0.Coords) : Fin 3 → Nat :=
  let c0_106 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v142 : Index := Scalar.indexCast v116
  let c128_107 : Index := 128#32
  ![0, v142.toNat, 128]
def k0_off3 (i : grid0.Coords) : Fin 3 → Nat :=
  let c0_115 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v164 : Index := Scalar.indexCast v116
  let c256_116 : Index := 256#32
  ![0, v164.toNat, 256]
def k0_off4 (i : grid0.Coords) : Fin 3 → Nat :=
  let c0_124 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v186 : Index := Scalar.indexCast v116
  let c384_125 : Index := 384#32
  ![0, v186.toNat, 384]
def k0_off5 (i : grid0.Coords) : Fin 3 → Nat :=
  let c0_133 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v208 : Index := Scalar.indexCast v116
  let c512_134 : Index := 512#32
  ![0, v208.toNat, 512]
def k0_off6 (i : grid0.Coords) : Fin 3 → Nat :=
  let c0_142 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v230 : Index := Scalar.indexCast v116
  let c640_143 : Index := 640#32
  ![0, v230.toNat, 640]
def k0_off7 (i : grid0.Coords) : Fin 3 → Nat :=
  let c0_151 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v252 : Index := Scalar.indexCast v116
  let c768_152 : Index := 768#32
  ![0, v252.toNat, 768]
def k0_off8 (i : grid0.Coords) : Fin 3 → Nat :=
  let c0_160 : Index := 0#32
  let arg2 : BitVec 32 := BitVec.ofNat 32 (i 2).val
  let c2_i32_96 : BitVec 32 := 2#32
  let v114 : BitVec 32 := Scalar.muli arg2 c2_i32_96
  let c128_i32 : BitVec 32 := 128#32
  let v115 : BitVec 32 := Scalar.muli v114 c128_i32
  let v116 : BitVec 32 := v115
  let v274 : Index := Scalar.indexCast v116
  let c896_161 : Index := 896#32
  ![0, v274.toNat, 896]
def k0_cond3 (i : grid0.Coords) : BitVec 1 :=
  let arg2 : BitVec 32 := BitVec.ofNat 32 (i 2).val
  let c2_i32 : BitVec 32 := 2#32
  let c0_i32_35 : BitVec 32 := 0#32
  let v40 : BitVec 1 := Scalar.cmpi .eq c2_i32 c0_i32_35
  let c1_i32 : BitVec 32 := 1#32
  let v41 : BitVec 32 := Scalar.select v40 c1_i32 c2_i32
  let v42 : BitVec 32 := Scalar.remsi arg2 v41
  let c0_i32_37 : BitVec 32 := 0#32
  let v44 : BitVec 1 := Scalar.cmpi .slt v42 c0_i32_37
  let c0_i32_38 : BitVec 32 := 0#32
  let v45 : BitVec 1 := Scalar.cmpi .slt v41 c0_i32_38
  let v46 : BitVec 1 := Scalar.xori v44 v45
  let c0_i32_36 : BitVec 32 := 0#32
  let v43 : BitVec 1 := Scalar.cmpi .ne v42 c0_i32_36
  let v47 : BitVec 1 := Scalar.andi v46 v43
  let v48 : BitVec 32 := Scalar.addi v42 v41
  let v49 : BitVec 32 := Scalar.select v47 v48 v42
  let c1_i32_39 : BitVec 32 := 1#32
  let v50 : BitVec 1 := Scalar.cmpi .eq v49 c1_i32_39
  let v51 : BitVec 32 := Scalar.extui v50
  let c0_i32_40 : BitVec 32 := 0#32
  let v52 : BitVec 1 := Scalar.cmpi .ne v51 c0_i32_40
  v52

def k0_mult2 (i : grid0.Coords) : BitVec 32 :=
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  v148
def k0_off9 (i : grid0.Coords) : Fin 3 → Nat :=
  let c0_146 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v150 : Index := Scalar.indexCast v149
  let c0_147 : Index := 0#32
  ![0, v150.toNat, 0]
def k0_off10 (i : grid0.Coords) : Fin 3 → Nat :=
  let c0_154 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v170 : Index := Scalar.indexCast v149
  let c128_155 : Index := 128#32
  ![0, v170.toNat, 128]
def k0_off11 (i : grid0.Coords) : Fin 3 → Nat :=
  let c0_162 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v190 : Index := Scalar.indexCast v149
  let c256_163 : Index := 256#32
  ![0, v190.toNat, 256]
def k0_off12 (i : grid0.Coords) : Fin 3 → Nat :=
  let c0_170 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v210 : Index := Scalar.indexCast v149
  let c384_171 : Index := 384#32
  ![0, v210.toNat, 384]
def k0_off13 (i : grid0.Coords) : Fin 3 → Nat :=
  let c0_178 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v230 : Index := Scalar.indexCast v149
  let c512_179 : Index := 512#32
  ![0, v230.toNat, 512]
def k0_off14 (i : grid0.Coords) : Fin 3 → Nat :=
  let c0_186 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v250 : Index := Scalar.indexCast v149
  let c640_187 : Index := 640#32
  ![0, v250.toNat, 640]
def k0_off15 (i : grid0.Coords) : Fin 3 → Nat :=
  let c0_194 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v270 : Index := Scalar.indexCast v149
  let c768_195 : Index := 768#32
  ![0, v270.toNat, 768]
def k0_off16 (i : grid0.Coords) : Fin 3 → Nat :=
  let c0_202 : Index := 0#32
  let arg2 : BitVec 32 := BitVec.ofNat 32 (i 2).val
  let c1_i32_96 : BitVec 32 := 1#32
  let v114 : BitVec 32 := Scalar.subi arg2 c1_i32_96
  let c2_i32_97 : BitVec 32 := 2#32
  let v115 : BitVec 32 := Scalar.muli v114 c2_i32_97
  let c128_i32 : BitVec 32 := 128#32
  let v148 : BitVec 32 := Scalar.muli v115 c128_i32
  let v149 : BitVec 32 := v148
  let v290 : Index := Scalar.indexCast v149
  let c896_203 : Index := 896#32
  ![0, v290.toNat, 896]
@[reducible] def k0_t1_loop (i : grid0.Coords) : Scf.Loop 32 :=
  let c0_i32_89 : BitVec 32 := 0#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_91 : BitVec 32 := 1#32
  ⟨c0_i32_89, v106, c1_i32_91⟩
def k0_mult3 (i : grid0.Coords) (k0_t1 : Fin (k0_t1_loop i).trips) : BitVec 32 :=
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  v121
def k0_off17 (i : grid0.Coords) (k0_t1 : Fin (k0_t1_loop i).trips) : Fin 3 → Nat :=
  let c0_102 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v123 : Index := Scalar.indexCast v122
  let c0_103 : Index := 0#32
  ![0, v123.toNat, 0]
def k0_off18 (i : grid0.Coords) (k0_t1 : Fin (k0_t1_loop i).trips) : Fin 3 → Nat :=
  let c0_110 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v143 : Index := Scalar.indexCast v122
  let c128_111 : Index := 128#32
  ![0, v143.toNat, 128]
def k0_off19 (i : grid0.Coords) (k0_t1 : Fin (k0_t1_loop i).trips) : Fin 3 → Nat :=
  let c0_118 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v163 : Index := Scalar.indexCast v122
  let c256_119 : Index := 256#32
  ![0, v163.toNat, 256]
def k0_off20 (i : grid0.Coords) (k0_t1 : Fin (k0_t1_loop i).trips) : Fin 3 → Nat :=
  let c0_126 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v183 : Index := Scalar.indexCast v122
  let c384_127 : Index := 384#32
  ![0, v183.toNat, 384]
def k0_off21 (i : grid0.Coords) (k0_t1 : Fin (k0_t1_loop i).trips) : Fin 3 → Nat :=
  let c0_134 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v203 : Index := Scalar.indexCast v122
  let c512_135 : Index := 512#32
  ![0, v203.toNat, 512]
def k0_off22 (i : grid0.Coords) (k0_t1 : Fin (k0_t1_loop i).trips) : Fin 3 → Nat :=
  let c0_142 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v223 : Index := Scalar.indexCast v122
  let c640_143 : Index := 640#32
  ![0, v223.toNat, 640]
def k0_off23 (i : grid0.Coords) (k0_t1 : Fin (k0_t1_loop i).trips) : Fin 3 → Nat :=
  let c0_150 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v243 : Index := Scalar.indexCast v122
  let c768_151 : Index := 768#32
  ![0, v243.toNat, 768]
def k0_off24 (i : grid0.Coords) (k0_t1 : Fin (k0_t1_loop i).trips) : Fin 3 → Nat :=
  let c0_158 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v263 : Index := Scalar.indexCast v122
  let c896_159 : Index := 896#32
  ![0, v263.toNat, 896]
def k0_mult4 (i : grid0.Coords) (k0_t1 : Fin (k0_t1_loop i).trips) : BitVec 32 :=
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  v442
def k0_off25 (i : grid0.Coords) (k0_t1 : Fin (k0_t1_loop i).trips) : Fin 3 → Nat :=
  let c0_192 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v444 : Index := Scalar.indexCast v443
  let c0_193 : Index := 0#32
  ![0, v444.toNat, 0]
def k0_off26 (i : grid0.Coords) (k0_t1 : Fin (k0_t1_loop i).trips) : Fin 3 → Nat :=
  let c0_200 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v464 : Index := Scalar.indexCast v443
  let c128_201 : Index := 128#32
  ![0, v464.toNat, 128]
def k0_off27 (i : grid0.Coords) (k0_t1 : Fin (k0_t1_loop i).trips) : Fin 3 → Nat :=
  let c0_208 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v484 : Index := Scalar.indexCast v443
  let c256_209 : Index := 256#32
  ![0, v484.toNat, 256]
def k0_off28 (i : grid0.Coords) (k0_t1 : Fin (k0_t1_loop i).trips) : Fin 3 → Nat :=
  let c0_216 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v504 : Index := Scalar.indexCast v443
  let c384_217 : Index := 384#32
  ![0, v504.toNat, 384]
def k0_off29 (i : grid0.Coords) (k0_t1 : Fin (k0_t1_loop i).trips) : Fin 3 → Nat :=
  let c0_224 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v524 : Index := Scalar.indexCast v443
  let c512_225 : Index := 512#32
  ![0, v524.toNat, 512]
def k0_off30 (i : grid0.Coords) (k0_t1 : Fin (k0_t1_loop i).trips) : Fin 3 → Nat :=
  let c0_232 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v544 : Index := Scalar.indexCast v443
  let c640_233 : Index := 640#32
  ![0, v544.toNat, 640]
def k0_off31 (i : grid0.Coords) (k0_t1 : Fin (k0_t1_loop i).trips) : Fin 3 → Nat :=
  let c0_240 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v564 : Index := Scalar.indexCast v443
  let c768_241 : Index := 768#32
  ![0, v564.toNat, 768]
def k0_off32 (i : grid0.Coords) (k0_t1 : Fin (k0_t1_loop i).trips) : Fin 3 → Nat :=
  let c0_248 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let c1_i32_91 : BitVec 32 := 1#32
  let arg10 : BitVec 32 := Scf.iv c0_i32_89 c1_i32_91 k0_t1
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v584 : Index := Scalar.indexCast v443
  let c896_249 : Index := 896#32
  ![0, v584.toNat, 896]
@[reducible] def k0_t2_loop (i : grid0.Coords) : Scf.Loop 32 :=
  let c0_i32_89 : BitVec 32 := 0#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let v103 : BitVec 32 := Scalar.addi c0_i32_89 v102
  let c1_i32_92 : BitVec 32 := 1#32
  ⟨v106, v103, c1_i32_92⟩
def k0_mult5 (i : grid0.Coords) (k0_t2 : Fin (k0_t2_loop i).trips) : BitVec 32 :=
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  v121
def k0_off33 (i : grid0.Coords) (k0_t2 : Fin (k0_t2_loop i).trips) : Fin 3 → Nat :=
  let c0_102 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v123 : Index := Scalar.indexCast v122
  let c0_103 : Index := 0#32
  ![0, v123.toNat, 0]
def k0_off34 (i : grid0.Coords) (k0_t2 : Fin (k0_t2_loop i).trips) : Fin 3 → Nat :=
  let c0_110 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v143 : Index := Scalar.indexCast v122
  let c128_111 : Index := 128#32
  ![0, v143.toNat, 128]
def k0_off35 (i : grid0.Coords) (k0_t2 : Fin (k0_t2_loop i).trips) : Fin 3 → Nat :=
  let c0_118 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v163 : Index := Scalar.indexCast v122
  let c256_119 : Index := 256#32
  ![0, v163.toNat, 256]
def k0_off36 (i : grid0.Coords) (k0_t2 : Fin (k0_t2_loop i).trips) : Fin 3 → Nat :=
  let c0_126 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v183 : Index := Scalar.indexCast v122
  let c384_127 : Index := 384#32
  ![0, v183.toNat, 384]
def k0_off37 (i : grid0.Coords) (k0_t2 : Fin (k0_t2_loop i).trips) : Fin 3 → Nat :=
  let c0_134 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v203 : Index := Scalar.indexCast v122
  let c512_135 : Index := 512#32
  ![0, v203.toNat, 512]
def k0_off38 (i : grid0.Coords) (k0_t2 : Fin (k0_t2_loop i).trips) : Fin 3 → Nat :=
  let c0_142 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v223 : Index := Scalar.indexCast v122
  let c640_143 : Index := 640#32
  ![0, v223.toNat, 640]
def k0_off39 (i : grid0.Coords) (k0_t2 : Fin (k0_t2_loop i).trips) : Fin 3 → Nat :=
  let c0_150 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v243 : Index := Scalar.indexCast v122
  let c768_151 : Index := 768#32
  ![0, v243.toNat, 768]
def k0_off40 (i : grid0.Coords) (k0_t2 : Fin (k0_t2_loop i).trips) : Fin 3 → Nat :=
  let c0_158 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c2_i32_101 : BitVec 32 := 2#32
  let v120 : BitVec 32 := Scalar.muli v117 c2_i32_101
  let c128_i32 : BitVec 32 := 128#32
  let v121 : BitVec 32 := Scalar.muli v120 c128_i32
  let v122 : BitVec 32 := v121
  let v263 : Index := Scalar.indexCast v122
  let c896_159 : Index := 896#32
  ![0, v263.toNat, 896]
def k0_mult6 (i : grid0.Coords) (k0_t2 : Fin (k0_t2_loop i).trips) : BitVec 32 :=
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  v442
def k0_off41 (i : grid0.Coords) (k0_t2 : Fin (k0_t2_loop i).trips) : Fin 3 → Nat :=
  let c0_192 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v444 : Index := Scalar.indexCast v443
  let c0_193 : Index := 0#32
  ![0, v444.toNat, 0]
def k0_off42 (i : grid0.Coords) (k0_t2 : Fin (k0_t2_loop i).trips) : Fin 3 → Nat :=
  let c0_200 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v464 : Index := Scalar.indexCast v443
  let c128_201 : Index := 128#32
  ![0, v464.toNat, 128]
def k0_off43 (i : grid0.Coords) (k0_t2 : Fin (k0_t2_loop i).trips) : Fin 3 → Nat :=
  let c0_208 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v484 : Index := Scalar.indexCast v443
  let c256_209 : Index := 256#32
  ![0, v484.toNat, 256]
def k0_off44 (i : grid0.Coords) (k0_t2 : Fin (k0_t2_loop i).trips) : Fin 3 → Nat :=
  let c0_216 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v504 : Index := Scalar.indexCast v443
  let c384_217 : Index := 384#32
  ![0, v504.toNat, 384]
def k0_off45 (i : grid0.Coords) (k0_t2 : Fin (k0_t2_loop i).trips) : Fin 3 → Nat :=
  let c0_224 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v524 : Index := Scalar.indexCast v443
  let c512_225 : Index := 512#32
  ![0, v524.toNat, 512]
def k0_off46 (i : grid0.Coords) (k0_t2 : Fin (k0_t2_loop i).trips) : Fin 3 → Nat :=
  let c0_232 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v544 : Index := Scalar.indexCast v443
  let c640_233 : Index := 640#32
  ![0, v544.toNat, 640]
def k0_off47 (i : grid0.Coords) (k0_t2 : Fin (k0_t2_loop i).trips) : Fin 3 → Nat :=
  let c0_240 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v564 : Index := Scalar.indexCast v443
  let c768_241 : Index := 768#32
  ![0, v564.toNat, 768]
def k0_off48 (i : grid0.Coords) (k0_t2 : Fin (k0_t2_loop i).trips) : Fin 3 → Nat :=
  let c0_248 : Index := 0#32
  let c2_i32_97 : BitVec 32 := 2#32
  let arg2 : BitVec 32 := BitVec.ofNat 32 (i 2).val
  let c0_i32_42 : BitVec 32 := 0#32
  let v54 : BitVec 1 := Scalar.cmpi .sgt arg2 c0_i32_42
  let v55 : BitVec 32 := Scalar.extui v54
  let c0_i32_43 : BitVec 32 := 0#32
  let v56 : BitVec 1 := Scalar.cmpi .slt arg2 c0_i32_43
  let v57 : BitVec 32 := Scalar.extui v56
  let v58 : BitVec 32 := Scalar.subi v55 v57
  let c2_i32_41 : BitVec 32 := 2#32
  let c0_i32_44 : BitVec 32 := 0#32
  let v59 : BitVec 1 := Scalar.cmpi .sgt c2_i32_41 c0_i32_44
  let v60 : BitVec 32 := Scalar.extui v59
  let c0_i32_45 : BitVec 32 := 0#32
  let v61 : BitVec 1 := Scalar.cmpi .slt c2_i32_41 c0_i32_45
  let v62 : BitVec 32 := Scalar.extui v61
  let v63 : BitVec 32 := Scalar.subi v60 v62
  let v64 : BitVec 1 := Scalar.cmpi .ne v58 v63
  let v65 : BitVec 32 := Scalar.remsi arg2 c2_i32_41
  let c0_i32_46 : BitVec 32 := 0#32
  let v66 : BitVec 1 := Scalar.cmpi .ne v65 c0_i32_46
  let v67 : BitVec 1 := Scalar.andi v64 v66
  let v53 : BitVec 32 := Scalar.divsi arg2 c2_i32_41
  let c1_i32_47 : BitVec 32 := 1#32
  let v68 : BitVec 32 := Scalar.subi v53 c1_i32_47
  let v69 : BitVec 32 := Scalar.select v67 v68 v53
  let c1_i32_96 : BitVec 32 := 1#32
  let v114 : BitVec 32 := Scalar.subi v69 c1_i32_96
  let c0_i32_89 : BitVec 32 := 0#32
  let v102 : BitVec 32 := Scalar.subi v69 c0_i32_89
  let c1_i32_90 : BitVec 32 := 1#32
  let v104 : BitVec 32 := Scalar.divsi v102 c1_i32_90
  let v105 : BitVec 32 := Scalar.muli v104 c1_i32_90
  let v106 : BitVec 32 := Scalar.addi c0_i32_89 v105
  let c1_i32_92 : BitVec 32 := 1#32
  let arg10 : BitVec 32 := Scf.iv v106 c1_i32_92 k0_t2
  let v115 : BitVec 32 := Scalar.subi v114 arg10
  let v116 : BitVec 32 := Scalar.muli c2_i32_97 v115
  let c1_i32_98 : BitVec 32 := 1#32
  let v117 : BitVec 32 := Scalar.addi v116 c1_i32_98
  let c1_i32_99 : BitVec 32 := 1#32
  let v118 : BitVec 32 := Scalar.subi v117 c1_i32_99
  let c2_i32_100 : BitVec 32 := 2#32
  let v119 : BitVec 32 := Scalar.muli v118 c2_i32_100
  let c128_i32_191 : BitVec 32 := 128#32
  let v442 : BitVec 32 := Scalar.muli v119 c128_i32_191
  let v443 : BitVec 32 := v442
  let v584 : Index := Scalar.indexCast v443
  let c896_249 : Index := 896#32
  ![0, v584.toNat, 896]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2064x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x2064x12288 : Shape := ⟨3, ![4, 2064, 12288]⟩
abbrev S4x2064x3x32x128 : Shape := ⟨5, ![4, 2064, 3, 32, 128]⟩
abbrev S4x2064x1x32x128 : Shape := ⟨5, ![4, 2064, 1, 32, 128]⟩
abbrev S4x2064x32x128 : Shape := ⟨4, ![4, 2064, 32, 128]⟩
abbrev S4x32x2064x2064 : Shape := ⟨4, ![4, 32, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x32x128x2064 : Shape := ⟨4, ![4, 32, 128, 2064]⟩
abbrev S4x2064x4096 : Shape := ⟨3, ![4, 2064, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4x2064x12288, .bf16⟩
  | .hbm, ⟨1, _⟩ => ⟨S4x2064x12288, .f32⟩
  | .hbm, ⟨2, _⟩ => ⟨S4x2064x3x32x128, .f32⟩
  | .hbm, ⟨3, _⟩ => ⟨S4x2064x1x32x128, .f32⟩
  | .hbm, ⟨4, _⟩ => ⟨S4x2064x32x128, .f32⟩
  | .hbm, ⟨5, _⟩ => ⟨S4x2064x1x32x128, .f32⟩
  | .hbm, ⟨6, _⟩ => ⟨S4x2064x32x128, .f32⟩
  | .hbm, ⟨7, _⟩ => ⟨S4x2064x1x32x128, .f32⟩
  | .hbm, ⟨8, _⟩ => ⟨S4x2064x32x128, .f32⟩
  | .hbm, ⟨9, _⟩ => ⟨S4x32x2064x2064, .f32⟩
  | .hbm, ⟨10, _⟩ => ⟨S_, .f32⟩
  | .hbm, ⟨11, _⟩ => ⟨S4x32x2064x2064, .f32⟩
  | .hbm, ⟨12, _⟩ => ⟨S4x32x2064x2064, .f32⟩
  | .hbm, ⟨13, _⟩ => ⟨S2064, .i32⟩
  | .hbm, ⟨14, _⟩ => ⟨S1x2064, .i32⟩
  | .hbm, ⟨15, _⟩ => ⟨S2064, .i32⟩
  | .hbm, ⟨16, _⟩ => ⟨S2064x1, .i32⟩
  | .hbm, ⟨17, _⟩ => ⟨S2064x2064, .i32⟩
  | .hbm, ⟨18, _⟩ => ⟨S2064x2064, .i32⟩
  | .hbm, ⟨19, _⟩ => ⟨S2064x2064, .i1⟩
  | .hbm, ⟨20, _⟩ => ⟨S4x32x2064x2064, .f32⟩
  | .hbm, ⟨21, _⟩ => ⟨S4x32x2064x2064, .f32⟩
  | .hbm, ⟨22, _⟩ => ⟨S_, .f32⟩
  | .hbm, ⟨23, _⟩ => ⟨S4x32x2064x2064, .f32⟩
  | .hbm, ⟨24, _⟩ => ⟨S4x32x2064x2064, .f32⟩
  | .hbm, ⟨25, _⟩ => ⟨S4x32x2064x2064, .f32⟩
  | .hbm, ⟨26, _⟩ => ⟨S4x32x2064x2064, .f32⟩
  | .hbm, ⟨27, _⟩ => ⟨S4x32x2064x2064, .i1⟩
  | .hbm, ⟨28, _⟩ => ⟨S4x32x2064x2064, .f32⟩
  | .hbm, ⟨29, _⟩ => ⟨S4x32x2064x2064, .f32⟩
  | .hbm, ⟨30, _⟩ => ⟨S4x32x2064x2064, .f32⟩
  | .hbm, ⟨31, _⟩ => ⟨S4x32x2064x2064, .f32⟩
  | .hbm, ⟨32, _⟩ => ⟨S4x32x2064x2064, .f32⟩
  | .hbm, ⟨33, _⟩ => ⟨S4x32x2064x2064, .f32⟩
  | .hbm, ⟨34, _⟩ => ⟨S4x32x2064x2064, .f32⟩
  | .hbm, ⟨35, _⟩ => ⟨S4x32x2064x2064, .f32⟩
  | .hbm, ⟨36, _⟩ => ⟨S4x32x2064x2064, .f32⟩
  | .hbm, ⟨37, _⟩ => ⟨S_, .f32⟩
  | .hbm, ⟨38, _⟩ => ⟨S_, .f32⟩
  | .hbm, ⟨39, _⟩ => ⟨S4x32x2064x2064, .i1⟩
  | .hbm, ⟨40, _⟩ => ⟨S4x32x2064x2064, .f32⟩
  | .hbm, ⟨41, _⟩ => ⟨S4x32x2064x2064, .f32⟩
  | .hbm, ⟨42, _⟩ => ⟨S_, .f32⟩
  | .hbm, ⟨43, _⟩ => ⟨S_, .f32⟩
  | .hbm, ⟨44, _⟩ => ⟨S4x32x2064x2064, .f32⟩
  | .hbm, ⟨45, _⟩ => ⟨S4x32x2064x2064, .f32⟩
  | .hbm, ⟨46, _⟩ => ⟨S4x32x2064x2064, .f32⟩
  | .hbm, ⟨47, _⟩ => ⟨S_, .f32⟩
  | .hbm, ⟨48, _⟩ => ⟨S4x32x2064x2064, .f32⟩
  | .hbm, ⟨49, _⟩ => ⟨S4x32x2064x2064, .f32⟩
  | .hbm, ⟨50, _⟩ => ⟨S4x32x2064x2064, .f32⟩
  | .hbm, ⟨51, _⟩ => ⟨S4x32x2064x2064, .f32⟩
  | .hbm, ⟨52, _⟩ => ⟨S4x32x2064x2064, .i1⟩
  | .hbm, ⟨53, _⟩ => ⟨S4x32x2064x2064, .f32⟩
  | .hbm, ⟨54, _⟩ => ⟨S4x32x2064x2064, .f32⟩
  | .hbm, ⟨55, _⟩ => ⟨S4x32x2064x2064, .f32⟩
  | .hbm, ⟨56, _⟩ => ⟨S4x32x2064x2064, .f32⟩
  | .hbm, ⟨57, _⟩ => ⟨S4x32x2064x2064, .f32⟩
  | .hbm, ⟨58, _⟩ => ⟨S4x32x2064x2064, .f32⟩
  | .hbm, ⟨59, _⟩ => ⟨S4x32x2064x2064, .f32⟩
  | .hbm, ⟨60, _⟩ => ⟨S4x32x2064x2064, .f32⟩
  | .hbm, ⟨61, _⟩ => ⟨S4x32x2064x2064, .f32⟩
  | .hbm, ⟨62, _⟩ => ⟨S4x32x2064x2064, .f32⟩
  | .hbm, ⟨63, _⟩ => ⟨S4x32x2064x2064, .f32⟩
  | .hbm, ⟨64, _⟩ => ⟨S_, .f32⟩
  | .hbm, ⟨65, _⟩ => ⟨S_, .f32⟩
  | .hbm, ⟨66, _⟩ => ⟨S4x32x2064x2064, .i1⟩
  | .hbm, ⟨67, _⟩ => ⟨S4x32x2064x2064, .f32⟩
  | .hbm, ⟨68, _⟩ => ⟨S4x32x2064x2064, .f32⟩
  | .hbm, ⟨69, _⟩ => ⟨S4x32x128x2064, .f32⟩
  | .hbm, ⟨70, _⟩ => ⟨S4x2064x32x128, .f32⟩
  | .hbm, ⟨71, _⟩ => ⟨S4x2064x4096, .f32⟩
  | .hbm, ⟨72, _⟩ => ⟨S4x2064x4096, .bf16⟩
  | _, _ => ⟨S4x2064x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== KernelUp.lean ====
abbrev S8256x4096 : Shape := ⟨2, ![8256, 4096]⟩
abbrev S2x4096x16384 : Shape := ⟨3, ![2, 4096, 16384]⟩
abbrev S8256x16384 : Shape := ⟨2, ![8256, 16384]⟩
abbrev S1376x4096 : Shape := ⟨2, ![1376, 4096]⟩
abbrev S1x4096x512 : Shape := ⟨3, ![1, 4096, 512]⟩
abbrev S1376x512 : Shape := ⟨2, ![1376, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S2x4096x16384, .f32⟩
  | .hbm, ⟨2, _⟩ => ⟨S8256x16384, .bf16⟩
  | .local _ .vmem, ⟨0, _⟩ => ⟨S1376x4096, .bf16⟩
  | .local _ .vmem, ⟨1, _⟩ => ⟨S1376x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8256x4096 : Shape := ⟨2, ![8256, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8256x16384 : Shape := ⟨2, ![8256, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x16384, .f32⟩
  | .hbm, ⟨2, _⟩ => ⟨S8256x4096, .f32⟩
  | .hbm, ⟨3, _⟩ => ⟨S1x4096x16384, .f32⟩
  | .hbm, ⟨4, _⟩ => ⟨S4096x16384, .f32⟩
  | .hbm, ⟨5, _⟩ => ⟨S8256x16384, .f32⟩
  | .hbm, ⟨6, _⟩ => ⟨S_, .f32⟩
  | .hbm, ⟨7, _⟩ => ⟨S8256x16384, .f32⟩
  | .hbm, ⟨8, _⟩ => ⟨S8256x16384, .f32⟩
  | .hbm, ⟨9, _⟩ => ⟨S8256x16384, .f32⟩
  | .hbm, ⟨10, _⟩ => ⟨S8256x16384, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelDown.lean ====
abbrev S8256x4096 : Shape := ⟨2, ![8256, 4096]⟩
abbrev S8256x16384 : Shape := ⟨2, ![8256, 16384]⟩
abbrev S2x16384x4096 : Shape := ⟨3, ![2, 16384, 4096]⟩
abbrev S1376x2048 : Shape := ⟨2, ![1376, 2048]⟩
abbrev S1x2048x1024 : Shape := ⟨3, ![1, 2048, 1024]⟩
abbrev S1376x1024 : Shape := ⟨2, ![1376, 1024]⟩
abbrev S1x2048x256 : Shape := ⟨3, ![1, 2048, 256]⟩
abbrev S2048x256 : Shape := ⟨2, ![2048, 256]⟩
abbrev S1376x256 : Shape := ⟨2, ![1376, 256]⟩

abbrev nBuf : Space → Nat
  | .hbm => 4
  | .vmem => 8
  | .smem => 0
  | _ => 0

abbrev bufTy : (tb : Table) → Fin (tcTables nBuf tb) → BufTy
  | .hbm, ⟨0, _⟩ => ⟨S8256x4096, .f32⟩
  | .hbm, ⟨1, _⟩ => ⟨S8256x16384, .bf16⟩
  | .hbm, ⟨2, _⟩ => ⟨S2x16384x4096, .f32⟩
  | .hbm, ⟨3, _⟩ => ⟨S8256x4096, .f32⟩
  | .local _ .vmem, ⟨0, _⟩ => ⟨S1376x2048, .bf16⟩
  | .local _ .vmem, ⟨1, _⟩ => ⟨S1376x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1376x1024, .f32⟩
  | .local _ .vmem, ⟨5, _⟩ => ⟨S1376x1024, .f32⟩
  | .local _ .vmem, ⟨6, _⟩ => ⟨S1376x1024, .f32⟩
  | .local _ .vmem, ⟨7, _⟩ => ⟨S1376x1024, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8256x4096 : Shape := ⟨2, ![8256, 4096]⟩
abbrev S8256x16384 : Shape := ⟨2, ![8256, 16384]⟩
abbrev S2x16384x4096 : Shape := ⟨3, ![2, 16384, 4096]⟩
abbrev S_ : Shape := ⟨0, ![]⟩
abbrev S1x16384x4096 : Shape := ⟨3, ![1, 16384, 4096]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S8256x16384, .bf16⟩
  | .hbm, ⟨2, _⟩ => ⟨S2x16384x4096, .f32⟩
  | .hbm, ⟨3, _⟩ => ⟨S_, .f32⟩
  | .hbm, ⟨4, _⟩ => ⟨S8256x4096, .f32⟩
  | .hbm, ⟨5, _⟩ => ⟨S8256x4096, .f32⟩
  | .hbm, ⟨6, _⟩ => ⟨S8256x16384, .f32⟩
  | .hbm, ⟨7, _⟩ => ⟨S1x16384x4096, .f32⟩
  | .hbm, ⟨8, _⟩ => ⟨S16384x4096, .f32⟩
  | .hbm, ⟨9, _⟩ => ⟨S8256x4096, .f32⟩
  | .hbm, ⟨10, _⟩ => ⟨S8256x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelQkv.lean ====
abbrev S8256x4096 : Shape := ⟨2, ![8256, 4096]⟩
abbrev S1x4096x12288 : Shape := ⟨3, ![1, 4096, 12288]⟩
abbrev S8256x12288 : Shape := ⟨2, ![8256, 12288]⟩
abbrev S1376x4096 : Shape := ⟨2, ![1376, 4096]⟩
abbrev S1x4096x512 : Shape := ⟨3, ![1, 4096, 512]⟩
abbrev S1376x512 : Shape := ⟨2, ![1376, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S1x4096x12288, .f32⟩
  | .hbm, ⟨2, _⟩ => ⟨S8256x12288, .bf16⟩
  | .local _ .vmem, ⟨0, _⟩ => ⟨S1376x4096, .bf16⟩
  | .local _ .vmem, ⟨1, _⟩ => ⟨S1376x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvIdeal.lean ====
abbrev S8256x4096 : Shape := ⟨2, ![8256, 4096]⟩
abbrev S1x4096x12288 : Shape := ⟨3, ![1, 4096, 12288]⟩
abbrev S4096x12288 : Shape := ⟨2, ![4096, 12288]⟩
abbrev S8256x12288 : Shape := ⟨2, ![8256, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S1x4096x12288, .f32⟩
  | .hbm, ⟨2, _⟩ => ⟨S8256x4096, .f32⟩
  | .hbm, ⟨3, _⟩ => ⟨S4096x12288, .f32⟩
  | .hbm, ⟨4, _⟩ => ⟨S8256x12288, .f32⟩
  | .hbm, ⟨5, _⟩ => ⟨S8256x12288, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelRkv.lean ====
abbrev S3x8256x4096 : Shape := ⟨3, ![3, 8256, 4096]⟩
abbrev S1x3x4096x4096 : Shape := ⟨4, ![1, 3, 4096, 4096]⟩
abbrev S8256x4096 : Shape := ⟨2, ![8256, 4096]⟩
abbrev S1x1376x4096 : Shape := ⟨3, ![1, 1376, 4096]⟩
abbrev S1x1x4096x512 : Shape := ⟨4, ![1, 1, 4096, 512]⟩
abbrev S1376x512 : Shape := ⟨2, ![1376, 512]⟩
abbrev S1376x4096 : Shape := ⟨2, ![1376, 4096]⟩
abbrev S4096x512 : Shape := ⟨2, ![4096, 512]⟩

abbrev nBuf : Space → Nat
  | .hbm => 5
  | .vmem => 18
  | .smem => 0
  | _ => 0

abbrev bufTy : (tb : Table) → Fin (tcTables nBuf tb) → BufTy
  | .hbm, ⟨0, _⟩ => ⟨S3x8256x4096, .bf16⟩
  | .hbm, ⟨1, _⟩ => ⟨S1x3x4096x4096, .f32⟩
  | .hbm, ⟨2, _⟩ => ⟨S8256x4096, .f32⟩
  | .hbm, ⟨3, _⟩ => ⟨S8256x4096, .f32⟩
  | .hbm, ⟨4, _⟩ => ⟨S8256x4096, .f32⟩
  | .local _ .vmem, ⟨0, _⟩ => ⟨S1x1376x4096, .bf16⟩
  | .local _ .vmem, ⟨1, _⟩ => ⟨S1x1376x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1376x512, .f32⟩
  | .local _ .vmem, ⟨5, _⟩ => ⟨S1376x512, .f32⟩
  | .local _ .vmem, ⟨6, _⟩ => ⟨S1x1376x4096, .bf16⟩
  | .local _ .vmem, ⟨7, _⟩ => ⟨S1x1376x4096, .bf16⟩
  | .local _ .vmem, ⟨8, _⟩ => ⟨S1x1x4096x512, .f32⟩
  | .local _ .vmem, ⟨9, _⟩ => ⟨S1x1x4096x512, .f32⟩
  | .local _ .vmem, ⟨10, _⟩ => ⟨S1376x512, .f32⟩
  | .local _ .vmem, ⟨11, _⟩ => ⟨S1376x512, .f32⟩
  | .local _ .vmem, ⟨12, _⟩ => ⟨S1x1376x4096, .bf16⟩
  | .local _ .vmem, ⟨13, _⟩ => ⟨S1x1376x4096, .bf16⟩
  | .local _ .vmem, ⟨14, _⟩ => ⟨S1x1x4096x512, .f32⟩
  | .local _ .vmem, ⟨15, _⟩ => ⟨S1x1x4096x512, .f32⟩
  | .local _ .vmem, ⟨16, _⟩ => ⟨S1376x512, .f32⟩
  | .local _ .vmem, ⟨17, _⟩ => ⟨S1376x512, .f32⟩
  | _, _ => ⟨S3x8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![6, 8, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1x1376x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1376x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![6, 8, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![c0_i32.toNat, c2_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1x1376x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1x4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1376x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ReferenceRkvIdeal.lean ====
abbrev S3x8256x4096 : Shape := ⟨3, ![3, 8256, 4096]⟩
abbrev S1x3x4096x4096 : Shape := ⟨4, ![1, 3, 4096, 4096]⟩
abbrev S3x4096x4096 : Shape := ⟨3, ![3, 4096, 4096]⟩
abbrev S1x8256x4096 : Shape := ⟨3, ![1, 8256, 4096]⟩
abbrev S8256x4096 : Shape := ⟨2, ![8256, 4096]⟩

abbrev nBuf : Space → Nat
  | .hbm => 11
  | .vmem => 0
  | .smem => 0
  | _ => 0

abbrev bufTy : (tb : Table) → Fin (tcTables nBuf tb) → BufTy
  | .hbm, ⟨0, _⟩ => ⟨S3x8256x4096, .bf16⟩
  | .hbm, ⟨1, _⟩ => ⟨S1x3x4096x4096, .f32⟩
  | .hbm, ⟨2, _⟩ => ⟨S3x8256x4096, .f32⟩
  | .hbm, ⟨3, _⟩ => ⟨S3x4096x4096, .f32⟩
  | .hbm, ⟨4, _⟩ => ⟨S3x8256x4096, .f32⟩
  | .hbm, ⟨5, _⟩ => ⟨S1x8256x4096, .f32⟩
  | .hbm, ⟨6, _⟩ => ⟨S8256x4096, .f32⟩
  | .hbm, ⟨7, _⟩ => ⟨S1x8256x4096, .f32⟩
  | .hbm, ⟨8, _⟩ => ⟨S8256x4096, .f32⟩
  | .hbm, ⟨9, _⟩ => ⟨S1x8256x4096, .f32⟩
  | .hbm, ⟨10, _⟩ => ⟨S8256x4096, .f32⟩
  | _, _ => ⟨S3x8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== KernelOut.lean ====
abbrev S8256x4096 : Shape := ⟨2, ![8256, 4096]⟩
abbrev S1x4096x4096 : Shape := ⟨3, ![1, 4096, 4096]⟩
abbrev S1376x2048 : Shape := ⟨2, ![1376, 2048]⟩
abbrev S1x2048x1024 : Shape := ⟨3, ![1, 2048, 1024]⟩
abbrev S1376x1024 : Shape := ⟨2, ![1376, 1024]⟩
abbrev S1x2048x256 : Shape := ⟨3, ![1, 2048, 256]⟩
abbrev S2048x256 : Shape := ⟨2, ![2048, 256]⟩
abbrev S1376x256 : Shape := ⟨2, ![1376, 256]⟩

abbrev nBuf : Space → Nat
  | .hbm => 4
  | .vmem => 8
  | .smem => 0
  | _ => 0

abbrev bufTy : (tb : Table) → Fin (tcTables nBuf tb) → BufTy
  | .hbm, ⟨0, _⟩ => ⟨S8256x4096, .f32⟩
  | .hbm, ⟨1, _⟩ => ⟨S8256x4096, .bf16⟩
  | .hbm, ⟨2, _⟩ => ⟨S1x4096x4096, .f32⟩
  | .hbm, ⟨3, _⟩ => ⟨S8256x4096, .f32⟩
  | .local _ .vmem, ⟨0, _⟩ => ⟨S1376x2048, .bf16⟩
  | .local _ .vmem, ⟨1, _⟩ => ⟨S1376x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1376x1024, .f32⟩
  | .local _ .vmem, ⟨5, _⟩ => ⟨S1376x1024, .f32⟩
  | .local _ .vmem, ⟨6, _⟩ => ⟨S1376x1024, .f32⟩
  | .local _ .vmem, ⟨7, _⟩ => ⟨S1376x1024, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8256x4096 : Shape := ⟨2, ![8256, 4096]⟩
abbrev S1x4096x4096 : Shape := ⟨3, ![1, 4096, 4096]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S8256x4096, .bf16⟩
  | .hbm, ⟨2, _⟩ => ⟨S1x4096x4096, .f32⟩
  | .hbm, ⟨3, _⟩ => ⟨S_, .f32⟩
  | .hbm, ⟨4, _⟩ => ⟨S8256x4096, .f32⟩
  | .hbm, ⟨5, _⟩ => ⟨S8256x4096, .f32⟩
  | .hbm, ⟨6, _⟩ => ⟨S8256x4096, .f32⟩
  | .hbm, ⟨7, _⟩ => ⟨S4096x4096, .f32⟩
  | .hbm, ⟨8, _⟩ => ⟨S8256x4096, .f32⟩
  | .hbm, ⟨9, _⟩ => ⟨S8256x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelNorm.lean ====
abbrev S8256x4096 : Shape := ⟨2, ![8256, 4096]⟩
abbrev S2x4096 : Shape := ⟨2, ![2, 4096]⟩
abbrev S1x4096 : Shape := ⟨2, ![1, 4096]⟩
abbrev S4096 : Shape := ⟨1, ![4096]⟩
abbrev S192x4096 : Shape := ⟨2, ![192, 4096]⟩
abbrev S192 : Shape := ⟨1, ![192]⟩
abbrev S192x1 : Shape := ⟨2, ![192, 1]⟩

abbrev nBuf : Space → Nat
  | .hbm => 11
  | .vmem => 8
  | .smem => 0
  | _ => 0

abbrev bufTy : (tb : Table) → Fin (tcTables nBuf tb) → BufTy
  | .hbm, ⟨0, _⟩ => ⟨S8256x4096, .f32⟩
  | .hbm, ⟨1, _⟩ => ⟨S2x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S8256x4096, .f32⟩
  | .hbm, ⟨10, _⟩ => ⟨S8256x4096, .bf16⟩
  | .local _ .vmem, ⟨0, _⟩ => ⟨S192x4096, .f32⟩
  | .local _ .vmem, ⟨1, _⟩ => ⟨S192x4096, .f32⟩
  | .local _ .vmem, ⟨2, _⟩ => ⟨S1x4096, .f32⟩
  | .local _ .vmem, ⟨3, _⟩ => ⟨S1x4096, .f32⟩
  | .local _ .vmem, ⟨4, _⟩ => ⟨S192x4096, .f32⟩
  | .local _ .vmem, ⟨5, _⟩ => ⟨S192x4096, .f32⟩
  | .local _ .vmem, ⟨6, _⟩ => ⟨S192x4096, .bf16⟩
  | .local _ .vmem, ⟨7, _⟩ => ⟨S192x4096, .bf16⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S8256x4096 : Shape := ⟨2, ![8256, 4096]⟩
abbrev S2x4096 : Shape := ⟨2, ![2, 4096]⟩
abbrev S_ : Shape := ⟨0, ![]⟩
abbrev S8256 : Shape := ⟨1, ![8256]⟩
abbrev S8256x1 : Shape := ⟨2, ![8256, 1]⟩
abbrev S1x4096 : Shape := ⟨2, ![1, 4096]⟩
abbrev S4096 : Shape := ⟨1, ![4096]⟩

abbrev nBuf : Space → Nat
  | .hbm => 37
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S2x4096, .f32⟩
  | .hbm, ⟨2, _⟩ => ⟨S2x4096, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S8256x4096, .f32⟩
  | .hbm, ⟨10, _⟩ => ⟨S8256x4096, .f32⟩
  | .hbm, ⟨11, _⟩ => ⟨S8256x4096, .f32⟩
  | .hbm, ⟨12, _⟩ => ⟨S_, .f32⟩
  | .hbm, ⟨13, _⟩ => ⟨S8256, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x4096, .f32⟩
  | .hbm, ⟨19, _⟩ => ⟨S8256x4096, .f32⟩
  | .hbm, ⟨20, _⟩ => ⟨S_, .f32⟩
  | .hbm, ⟨21, _⟩ => ⟨S8256x1, .f32⟩
  | .hbm, ⟨22, _⟩ => ⟨S8256x1, .f32⟩
  | .hbm, ⟨23, _⟩ => ⟨S8256x1, .f32⟩
  | .hbm, ⟨24, _⟩ => ⟨S8256x4096, .f32⟩
  | .hbm, ⟨25, _⟩ => ⟨S8256x4096, .f32⟩
  | .hbm, ⟨26, _⟩ => ⟨S1x4096, .f32⟩
  | .hbm, ⟨27, _⟩ => ⟨S4096, .f32⟩
  | .hbm, ⟨28, _⟩ => ⟨S1x4096, .f32⟩
  | .hbm, ⟨29, _⟩ => ⟨S8256x4096, .f32⟩
  | .hbm, ⟨30, _⟩ => ⟨S8256x4096, .f32⟩
  | .hbm, ⟨31, _⟩ => ⟨S1x4096, .f32⟩
  | .hbm, ⟨32, _⟩ => ⟨S4096, .f32⟩
  | .hbm, ⟨33, _⟩ => ⟨S1x4096, .f32⟩
  | .hbm, ⟨34, _⟩ => ⟨S8256x4096, .f32⟩
  | .hbm, ⟨35, _⟩ => ⟨S8256x4096, .f32⟩
  | .hbm, ⟨36, _⟩ => ⟨S8256x4096, .bf16⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== KernelLast.lean ====
abbrev S8256x4096 : Shape := ⟨2, ![8256, 4096]⟩
abbrev S2x4096 : Shape := ⟨2, ![2, 4096]⟩
abbrev S4x2064x4096 : Shape := ⟨3, ![4, 2064, 4096]⟩
abbrev S1x4096 : Shape := ⟨2, ![1, 4096]⟩
abbrev S4096 : Shape := ⟨1, ![4096]⟩
abbrev S4x2048x4096 : Shape := ⟨3, ![4, 2048, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 6
  | .smem => 0
  | _ => 0

abbrev bufTy : (tb : Table) → Fin (tcTables nBuf tb) → BufTy
  | .hbm, ⟨0, _⟩ => ⟨S8256x4096, .f32⟩
  | .hbm, ⟨1, _⟩ => ⟨S2x4096, .f32⟩
  | .hbm, ⟨2, _⟩ => ⟨S2x4096, .f32⟩
  | .hbm, ⟨3, _⟩ => ⟨S4x2064x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S4x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x4096, .f32⟩
  | .local _ .vmem, ⟨4, _⟩ => ⟨S1x256x4096, .f32⟩
  | .local _ .vmem, ⟨5, _⟩ => ⟨S1x256x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  v1
def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceLastIdeal.lean ====
abbrev S8256x4096 : Shape := ⟨2, ![8256, 4096]⟩
abbrev S2x4096 : Shape := ⟨2, ![2, 4096]⟩
abbrev S4x2064x4096 : Shape := ⟨3, ![4, 2064, 4096]⟩
abbrev S_ : Shape := ⟨0, ![]⟩
abbrev S4x2064 : Shape := ⟨2, ![4, 2064]⟩
abbrev S4x2064x1 : Shape := ⟨3, ![4, 2064, 1]⟩
abbrev S1x4096 : Shape := ⟨2, ![1, 4096]⟩
abbrev S4096 : Shape := ⟨1, ![4096]⟩
abbrev S1x1x4096 : Shape := ⟨3, ![1, 1, 4096]⟩
abbrev S4x2048x4096 : Shape := ⟨3, ![4, 2048, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S2x4096, .f32⟩
  | .hbm, ⟨2, _⟩ => ⟨S2x4096, .f32⟩
  | .hbm, ⟨3, _⟩ => ⟨S4x2064x4096, .f32⟩
  | .hbm, ⟨4, _⟩ => ⟨S_, .f32⟩
  | .hbm, ⟨5, _⟩ => ⟨S4x2064, .f32⟩
  | .hbm, ⟨6, _⟩ => ⟨S4x2064x1, .f32⟩
  | .hbm, ⟨7, _⟩ => ⟨S_, .f32⟩
  | .hbm, ⟨8, _⟩ => ⟨S4x2064x1, .f32⟩
  | .hbm, ⟨9, _⟩ => ⟨S4x2064x1, .f32⟩
  | .hbm, ⟨10, _⟩ => ⟨S4x2064x4096, .f32⟩
  | .hbm, ⟨11, _⟩ => ⟨S4x2064x4096, .f32⟩
  | .hbm, ⟨12, _⟩ => ⟨S4x2064x4096, .f32⟩
  | .hbm, ⟨13, _⟩ => ⟨S_, .f32⟩
  | .hbm, ⟨14, _⟩ => ⟨S4x2064, .f32⟩
  | .hbm, ⟨15, _⟩ => ⟨S4x2064x1, .f32⟩
  | .hbm, ⟨16, _⟩ => ⟨S_, .f32⟩
  | .hbm, ⟨17, _⟩ => ⟨S4x2064x1, .f32⟩
  | .hbm, ⟨18, _⟩ => ⟨S4x2064x1, .f32⟩
  | .hbm, ⟨19, _⟩ => ⟨S4x2064x4096, .f32⟩
  | .hbm, ⟨20, _⟩ => ⟨S4x2064x4096, .f32⟩
  | .hbm, ⟨21, _⟩ => ⟨S_, .f32⟩
  | .hbm, ⟨22, _⟩ => ⟨S4x2064x1, .f32⟩
  | .hbm, ⟨23, _⟩ => ⟨S4x2064x1, .f32⟩
  | .hbm, ⟨24, _⟩ => ⟨S4x2064x1, .f32⟩
  | .hbm, ⟨25, _⟩ => ⟨S4x2064x4096, .f32⟩
  | .hbm, ⟨26, _⟩ => ⟨S4x2064x4096, .f32⟩
  | .hbm, ⟨27, _⟩ => ⟨S1x4096, .f32⟩
  | .hbm, ⟨28, _⟩ => ⟨S4096, .f32⟩
  | .hbm, ⟨29, _⟩ => ⟨S1x1x4096, .f32⟩
  | .hbm, ⟨30, _⟩ => ⟨S4x2064x4096, .f32⟩
  | .hbm, ⟨31, _⟩ => ⟨S4x2064x4096, .f32⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S4x2064x4096, .f32⟩
  | .hbm, ⟨36, _⟩ => ⟨S4x2064x4096, .f32⟩
  | .hbm, ⟨37, _⟩ => ⟨S4x2048x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== KernelMix.lean ====
abbrev S4x2048x4096 : Shape := ⟨3, ![4, 2048, 4096]⟩
abbrev S16x4096 : Shape := ⟨2, ![16, 4096]⟩
abbrev S1x6x4096 : Shape := ⟨3, ![1, 6, 4096]⟩
abbrev S1x4096x128 : Shape := ⟨3, ![1, 4096, 128]⟩
abbrev S1x4096x480 : Shape := ⟨3, ![1, 4096, 480]⟩
abbrev S1x16x4096 : Shape := ⟨3, ![1, 16, 4096]⟩
abbrev S4x16x4096 : Shape := ⟨3, ![4, 16, 4096]⟩
abbrev S4x2064x4096 : Shape := ⟨3, ![4, 2064, 4096]⟩
abbrev S8256x4096 : Shape := ⟨2, ![8256, 4096]⟩
abbrev S6x4096 : Shape := ⟨2, ![6, 4096]⟩
abbrev S4096x128 : Shape := ⟨2, ![4096, 128]⟩
abbrev S4096x480 : Shape := ⟨2, ![4096, 480]⟩
abbrev S3x4x2064x4096 : Shape := ⟨4, ![3, 4, 2064, 4096]⟩
abbrev S4x2064x128 : Shape := ⟨3, ![4, 2064, 128]⟩
abbrev S4x2064x480 : Shape := ⟨3, ![4, 2064, 480]⟩
abbrev S1x688x2048 : Shape := ⟨3, ![1, 688, 2048]⟩
abbrev S1x8x2048 : Shape := ⟨3, ![1, 8, 2048]⟩
abbrev S6x2048 : Shape := ⟨2, ![6, 2048]⟩
abbrev S2048x128 : Shape := ⟨2, ![2048, 128]⟩
abbrev S2048x480 : Shape := ⟨2, ![2048, 480]⟩
abbrev S3x1x688x2048 : Shape := ⟨4, ![3, 1, 688, 2048]⟩
abbrev S1x688x128 : Shape := ⟨3, ![1, 688, 128]⟩
abbrev S1x688x480 : Shape := ⟨3, ![1, 688, 480]⟩
abbrev S688x2048 : Shape := ⟨2, ![688, 2048]⟩
abbrev S1x1x2048 : Shape := ⟨3, ![1, 1, 2048]⟩
abbrev S1x2048 : Shape := ⟨2, ![1, 2048]⟩
abbrev S688x1 : Shape := ⟨2, ![688, 1]⟩
abbrev S1x1x688x2048 : Shape := ⟨4, ![1, 1, 688, 2048]⟩
abbrev S688x128 : Shape := ⟨2, ![688, 128]⟩
abbrev S688x480 : Shape := ⟨2, ![688, 480]⟩

abbrev nBuf : Space → Nat
  | .hbm => 22
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S1x6x4096, .f32⟩
  | .hbm, ⟨3, _⟩ => ⟨S1x4096x128, .f32⟩
  | .hbm, ⟨4, _⟩ => ⟨S1x4096x128, .f32⟩
  | .hbm, ⟨5, _⟩ => ⟨S1x4096x480, .f32⟩
  | .hbm, ⟨6, _⟩ => ⟨S1x16x4096, .f32⟩
  | .hbm, ⟨7, _⟩ => ⟨S4x16x4096, .f32⟩
  | .hbm, ⟨8, _⟩ => ⟨S4x2064x4096, .f32⟩
  | .hbm, ⟨9, _⟩ => ⟨S8256x4096, .f32⟩
  | .hbm, ⟨10, _⟩ => ⟨S4x2064x4096, .f32⟩
  | .hbm, ⟨11, _⟩ => ⟨S6x4096, .f32⟩
  | .hbm, ⟨12, _⟩ => ⟨S4096x128, .f32⟩
  | .hbm, ⟨13, _⟩ => ⟨S4096x128, .bf16⟩
  | .hbm, ⟨14, _⟩ => ⟨S4096x128, .f32⟩
  | .hbm, ⟨15, _⟩ => ⟨S4096x128, .bf16⟩
  | .hbm, ⟨16, _⟩ => ⟨S4096x480, .f32⟩
  | .hbm, ⟨17, _⟩ => ⟨S4096x480, .bf16⟩
  | .hbm, ⟨18, _⟩ => ⟨S3x4x2064x4096, .bf16⟩
  | .hbm, ⟨19, _⟩ => ⟨S4x2064x128, .f32⟩
  | .hbm, ⟨20, _⟩ => ⟨S4x2064x128, .f32⟩
  | .hbm, ⟨21, _⟩ => ⟨S4x2064x480, .f32⟩
  | .local _ .vmem, ⟨0, _⟩ => ⟨S1x688x2048, .f32⟩
  | .local _ .vmem, ⟨1, _⟩ => ⟨S1x688x2048, .f32⟩
  | .local _ .vmem, ⟨2, _⟩ => ⟨S1x8x2048, .f32⟩
  | .local _ .vmem, ⟨3, _⟩ => ⟨S1x8x2048, .f32⟩
  | .local _ .vmem, ⟨4, _⟩ => ⟨S6x2048, .f32⟩
  | .local _ .vmem, ⟨5, _⟩ => ⟨S6x2048, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x480, .bf16⟩
  | .local _ .vmem, ⟨11, _⟩ => ⟨S2048x480, .bf16⟩
  | .local _ .vmem, ⟨12, _⟩ => ⟨S3x1x688x2048, .bf16⟩
  | .local _ .vmem, ⟨13, _⟩ => ⟨S3x1x688x2048, .bf16⟩
  | .local _ .vmem, ⟨14, _⟩ => ⟨S1x688x128, .f32⟩
  | .local _ .vmem, ⟨15, _⟩ => ⟨S1x688x128, .f32⟩
  | .local _ .vmem, ⟨16, _⟩ => ⟨S1x688x128, .f32⟩
  | .local _ .vmem, ⟨17, _⟩ => ⟨S1x688x128, .f32⟩
  | .local _ .vmem, ⟨18, _⟩ => ⟨S1x688x480, .f32⟩
  | .local _ .vmem, ⟨19, _⟩ => ⟨S1x688x480, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 3, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c86_i32 : BitVec 32 := 86#32
  let v0 : BitVec 32 := Scalar.muli arg1 c86_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x480 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x1x688x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x688x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x688x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x688x480 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceMixIdeal.lean ====
abbrev S4x2048x4096 : Shape := ⟨3, ![4, 2048, 4096]⟩
abbrev S16x4096 : Shape := ⟨2, ![16, 4096]⟩
abbrev S1x6x4096 : Shape := ⟨3, ![1, 6, 4096]⟩
abbrev S1x4096x128 : Shape := ⟨3, ![1, 4096, 128]⟩
abbrev S1x4096x480 : Shape := ⟨3, ![1, 4096, 480]⟩
abbrev S1x16x4096 : Shape := ⟨3, ![1, 16, 4096]⟩
abbrev S4x16x4096 : Shape := ⟨3, ![4, 16, 4096]⟩
abbrev S4x2064x4096 : Shape := ⟨3, ![4, 2064, 4096]⟩
abbrev S4x2063x4096 : Shape := ⟨3, ![4, 2063, 4096]⟩
abbrev S_ : Shape := ⟨0, ![]⟩
abbrev S1x4x2064x4096 : Shape := ⟨4, ![1, 4, 2064, 4096]⟩
abbrev S6x4096 : Shape := ⟨2, ![6, 4096]⟩
abbrev S6x1x1x4096 : Shape := ⟨4, ![6, 1, 1, 4096]⟩
abbrev S6x4x2064x4096 : Shape := ⟨4, ![6, 4, 2064, 4096]⟩
abbrev S3x4x2064x4096 : Shape := ⟨4, ![3, 4, 2064, 4096]⟩
abbrev S4096x128 : Shape := ⟨2, ![4096, 128]⟩
abbrev S4x2064x128 : Shape := ⟨3, ![4, 2064, 128]⟩
abbrev S4096x480 : Shape := ⟨2, ![4096, 480]⟩
abbrev S4x2064x480 : Shape := ⟨3, ![4, 2064, 480]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S1x6x4096, .f32⟩
  | .hbm, ⟨3, _⟩ => ⟨S1x4096x128, .f32⟩
  | .hbm, ⟨4, _⟩ => ⟨S1x4096x128, .f32⟩
  | .hbm, ⟨5, _⟩ => ⟨S1x4096x480, .f32⟩
  | .hbm, ⟨6, _⟩ => ⟨S1x16x4096, .f32⟩
  | .hbm, ⟨7, _⟩ => ⟨S4x16x4096, .f32⟩
  | .hbm, ⟨8, _⟩ => ⟨S4x2064x4096, .f32⟩
  | .hbm, ⟨9, _⟩ => ⟨S4x2063x4096, .f32⟩
  | .hbm, ⟨10, _⟩ => ⟨S_, .i32⟩
  | .hbm, ⟨11, _⟩ => ⟨S_, .f32⟩
  | .hbm, ⟨12, _⟩ => ⟨S4x2064x4096, .f32⟩
  | .hbm, ⟨13, _⟩ => ⟨S4x2064x4096, .f32⟩
  | .hbm, ⟨14, _⟩ => ⟨S1x4x2064x4096, .f32⟩
  | .hbm, ⟨15, _⟩ => ⟨S1x4x2064x4096, .f32⟩
  | .hbm, ⟨16, _⟩ => ⟨S6x4096, .f32⟩
  | .hbm, ⟨17, _⟩ => ⟨S6x1x1x4096, .f32⟩
  | .hbm, ⟨18, _⟩ => ⟨S6x4x2064x4096, .f32⟩
  | .hbm, ⟨19, _⟩ => ⟨S6x4x2064x4096, .f32⟩
  | .hbm, ⟨20, _⟩ => ⟨S6x4x2064x4096, .f32⟩
  | .hbm, ⟨21, _⟩ => ⟨S6x4x2064x4096, .f32⟩
  | .hbm, ⟨22, _⟩ => ⟨S6x4x2064x4096, .f32⟩
  | .hbm, ⟨23, _⟩ => ⟨S3x4x2064x4096, .f32⟩
  | .hbm, ⟨24, _⟩ => ⟨S3x4x2064x4096, .bf16⟩
  | .hbm, ⟨25, _⟩ => ⟨S1x4x2064x4096, .f32⟩
  | .hbm, ⟨26, _⟩ => ⟨S4x2064x4096, .f32⟩
  | .hbm, ⟨27, _⟩ => ⟨S4096x128, .f32⟩
  | .hbm, ⟨28, _⟩ => ⟨S4x2064x128, .f32⟩
  | .hbm, ⟨29, _⟩ => ⟨S4x2064x128, .f32⟩
  | .hbm, ⟨30, _⟩ => ⟨S1x4x2064x4096, .f32⟩
  | .hbm, ⟨31, _⟩ => ⟨S4x2064x4096, .f32⟩
  | .hbm, ⟨32, _⟩ => ⟨S4096x128, .f32⟩
  | .hbm, ⟨33, _⟩ => ⟨S4x2064x128, .f32⟩
  | .hbm, ⟨34, _⟩ => ⟨S1x4x2064x4096, .f32⟩
  | .hbm, ⟨35, _⟩ => ⟨S4x2064x4096, .f32⟩
  | .hbm, ⟨36, _⟩ => ⟨S4096x480, .f32⟩
  | .hbm, ⟨37, _⟩ => ⟨S4x2064x480, .f32⟩
  | .hbm, ⟨38, _⟩ => ⟨S4x2064x480, .f32⟩
  | .hbm, ⟨39, _⟩ => ⟨S4x2064x480, .f32⟩
  | .hbm, ⟨40, _⟩ => ⟨S_, .f32⟩
  | .hbm, ⟨41, _⟩ => ⟨S4x2064x480, .f32⟩
  | .hbm, ⟨42, _⟩ => ⟨S4x2064x480, .f32⟩
  | .hbm, ⟨43, _⟩ => ⟨S_, .f32⟩
  | .hbm, ⟨44, _⟩ => ⟨S4x2064x480, .f32⟩
  | .hbm, ⟨45, _⟩ => ⟨S4x2064x480, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_v33 : Ref sig .tc := ⟨.hbm, 42, rfl⟩
abbrev main_cst_0 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Run.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word the first conditional of the body decides on: whether the query block is the ninth. -/
def isTail (i : grid0.Coords) : BitVec 1 :=
  Scalar.cmpi .ne (Scalar.extui (Scalar.cmpi .eq (BitVec.ofNat 32 (i 2).val) 8#32)) 0#32

variable (c : Dev nD) (i : grid0.Coords)
    (arg3 : Memref sig .tc .vmem S1x256x1024 .bf16) (harg3 : arg3.IsWhole) (arg4 : Memref sig .tc .vmem S1x2064x1024 .bf16) (harg4 : arg4.IsWhole)
    (arg5 : Memref sig .tc .vmem S1x2064x1024 .bf16) (harg5 : arg5.IsWhole) (arg6 : Memref sig .tc .vmem S256x256 .bf16) (harg6 : arg6.IsWhole)
    (arg7 : Memref sig .tc .vmem S1x256x1024 .bf16) (harg7 : arg7.IsWhole) (arg8 : Memref sig .tc .vmem S8x256x128 .f32) (harg8 : arg8.IsWhole)
    (arg9 : Memref sig .tc .vmem S8x256x128 .f32) (harg9 : arg9.IsWhole)
    (x3 : Vec F S1x256x1024 .bf16) (x4 x5 : Vec F S1x2064x1024 .bf16) (x6 : Vec F S256x256 .bf16)

/-- The pieces the body's stores leave in the output's staging buffer, with the proof that the body runs to its return and leaves them there, the
    four inputs as they were and both scratch buffers at some contents. -/
abbrev Ran : Type :=
  { L : List (View.Piece (Elt F) S1x256x1024 .bf16) //
    ∀ (E : Set ℕ) (K : PUnit → sProp 𝕄),
      iprop(owns (c : Thread nD τ) arg3 fullShare x3 ∗ owns (c : Thread nD τ) arg4 fullShare x4 ∗ owns (c : Thread nD τ) arg5 fullShare x5
          ∗ owns (c : Thread nD τ) arg6 fullShare x6 ∗ (∃ d, owns (c : Thread nD τ) arg7 fullShare d)
          ∗ (∃ d, owns (c : Thread nD τ) arg8 fullShare d) ∗ (∃ d, owns (c : Thread nD τ) arg9 fullShare d)
          ∗ (iprop(owns (c : Thread nD τ) arg3 fullShare x3 ∗ owns (c : Thread nD τ) arg4 fullShare x4 ∗ owns (c : Thread nD τ) arg5 fullShare x5
              ∗ owns (c : Thread nD τ) arg6 fullShare x6
              ∗ (∃ f, (arg7.view.loc (c : Thread nD τ) ↦[arg7.view.set]{fullShare} arg7.view.writes (Elt F) f L))
              ∗ (∃ d, owns (c : Thread nD τ) arg8 fullShare d) ∗ (∃ d, owns (c : Thread nD τ) arg9 fullShare d)) -∗ K ⟨⟩))
        ⊢ wp frame (wpE (defs₀ (F := F)) Variants.none c none) E
            (cc0_stick_breaking_attention i arg3 harg3 arg4 harg4 arg5 harg5 arg6 harg6 arg7 harg7 arg8 harg8 arg9 harg9) K }

set_option maxHeartbeats 4000000 in
/-- THE BODY AT THE NINTH QUERY BLOCK. -/
noncomputable def runT (hc1 : isTail i = 1#1) (hc2 : ¬k0_cond2 i = 1#1) (hc3 : ¬k0_cond3 i = 1#1) :
    Ran c i arg3 harg3 arg4 harg4 arg5 harg5 arg6 harg6 arg7 harg7 arg8 harg8 arg9 harg9 x3 x4 x5 x6 := by
  refine ⟨?_, fun E K => ?run⟩
  case run =>
    simp only [cc0_stick_breaking_attention_eq_skeleton]
    unfold cc0_stick_breaking_attention_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | sl_exact hc1 | sl_exact hc2 | sl_exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _, _; isplitr; swap; · iexact H8
      ipureintro; rfl
    · iexists _, _; isplitr; swap; · iexact H9
      ipureintro; rfl

set_option maxHeartbeats 4000000 in
/-- THE BODY AT AN EVEN QUERY BLOCK BEFORE THE NINTH. -/
noncomputable def runE (hc1 : ¬isTail i = 1#1) (hc2 : k0_cond2 i = 1#1) (hc3 : ¬k0_cond3 i = 1#1) :
    Ran c i arg3 harg3 arg4 harg4 arg5 harg5 arg6 harg6 arg7 harg7 arg8 harg8 arg9 harg9 x3 x4 x5 x6 := by
  refine ⟨?_, fun E K => ?run⟩
  case run =>
    simp only [cc0_stick_breaking_attention_eq_skeleton]
    unfold cc0_stick_breaking_attention_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | sl_exact hc1 | sl_exact hc2 | sl_exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _, _; isplitr; swap; · iexact H8
      ipureintro; rfl
    · iexists _, _; isplitr; swap; · iexact H9
      ipureintro; rfl

set_option maxHeartbeats 4000000 in
/-- THE BODY AT AN ODD QUERY BLOCK. -/
noncomputable def runO (hc1 : ¬isTail i = 1#1) (hc2 : k0_cond2 i = 1#1) (hc3 : k0_cond3 i = 1#1) :
    Ran c i arg3 harg3 arg4 harg4 arg5 harg5 arg6 harg6 arg7 harg7 arg8 harg8 arg9 harg9 x3 x4 x5 x6 := by
  refine ⟨?_, fun E K => ?run⟩
  case run =>
    simp only [cc0_stick_breaking_attention_eq_skeleton]
    unfold cc0_stick_breaking_attention_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | sl_exact hc1 | sl_exact hc2 | sl_exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _, _; isplitr; swap; · iexact H8
      ipureintro; rfl
    · iexists _, _; isplitr; swap; · iexact H9
      ipureintro; rfl

end Cert.Proof

end
-- ==== Proof.Body.lean ====
module

public import proofs.«01_k».proof.Proof.Run
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which of the three runs a grid point takes -/

theorem isTail_iff : ∀ t : Fin cfg0.N, isTail (grid0.coords t) = 1#1 ↔ t.val % 9 = 8 :=
  (by decide +kernel : ∀ t : Fin grid0.N, isTail (grid0.coords t) = 1#1 ↔ t.val % 9 = 8)
theorem cond2_iff : ∀ t : Fin cfg0.N, k0_cond2 (grid0.coords t) = 1#1 ↔ t.val % 9 ≠ 8 :=
  (by decide +kernel : ∀ t : Fin grid0.N, k0_cond2 (grid0.coords t) = 1#1 ↔ t.val % 9 ≠ 8)
theorem cond3_iff : ∀ t : Fin cfg0.N, k0_cond3 (grid0.coords t) = 1#1 ↔ t.val % 9 % 2 = 1 :=
  (by decide +kernel : ∀ t : Fin grid0.N, k0_cond3 (grid0.coords t) = 1#1 ↔ t.val % 9 % 2 = 1)

abbrev ms0 (t : Fin cfg0.N) : Memref sig .tc .vmem S1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2064x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2064x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1024 .bf16 := win0_4.stage (cfg0.slots t 4)
abbrev hs4 (t : Fin cfg0.N) : (ms4 t).IsWhole := hstage0_4 ((cfg0.slots t 4).cast nbuf0_4)
abbrev sc0 : Memref sig .tc .vmem S8x256x128 .f32 := Memref.whole cc0_scratch0
abbrev hsc0 : sc0.IsWhole := Memref.isWhole_whole _
abbrev sc1 : Memref sig .tc .vmem S8x256x128 .f32 := Memref.whole cc0_scratch1
abbrev hsc1 : sc1.IsWhole := Memref.isWhole_whole _

section
variable (c : Dev nD) (t : Fin cfg0.N) (x3 : Vec F S1x256x1024 .bf16) (x4 x5 : Vec F S1x2064x1024 .bf16) (x6 : Vec F S256x256 .bf16)

/-- The run at the ninth query block, at the point's own staging buffers; -/
def ranT (h : t.val % 9 = 8) :=
  runT c (grid0.coords t) (ms0 t) (hs0 t) (ms1 t) (hs1 t) (ms2 t) (hs2 t) (ms3 t) (hs3 t) (ms4 t) (hs4 t) sc0 hsc0 sc1 hsc1 x3 x4 x5 x6
    ((isTail_iff t).mpr h) (fun e => (cond2_iff t).mp e h) (fun e => by have := (cond3_iff t).mp e; omega)
/-- at an even one before it; -/
def ranE (h : t.val % 9 ≠ 8) (h' : t.val % 9 % 2 ≠ 1) :=
  runE c (grid0.coords t) (ms0 t) (hs0 t) (ms1 t) (hs1 t) (ms2 t) (hs2 t) (ms3 t) (hs3 t) (ms4 t) (hs4 t) sc0 hsc0 sc1 hsc1 x3 x4 x5 x6
    (fun e => h ((isTail_iff t).mp e)) ((cond2_iff t).mpr h) (fun e => h' ((cond3_iff t).mp e))
/-- at an odd one. -/
def ranO (h' : t.val % 9 % 2 = 1) :=
  runO c (grid0.coords t) (ms0 t) (hs0 t) (ms1 t) (hs1 t) (ms2 t) (hs2 t) (ms3 t) (hs3 t) (ms4 t) (hs4 t) sc0 hsc0 sc1 hsc1 x3 x4 x5 x6
    (fun e => by have := (isTail_iff t).mp e; omega) ((cond2_iff t).mpr (by omega)) ((cond3_iff t).mpr h')

/-- The run the point takes. -/
def ran : Ran c (grid0.coords t) (ms0 t) (hs0 t) (ms1 t) (hs1 t) (ms2 t) (hs2 t) (ms3 t) (hs3 t) (ms4 t) (hs4 t) sc0 hsc0 sc1 hsc1 x3 x4 x5 x6 :=
  if h : t.val % 9 = 8 then ranT c t x3 x4 x5 x6 h
  else if h' : t.val % 9 % 2 = 1 then ranO c t x3 x4 x5 x6 h'
  else ranE c t x3 x4 x5 x6 h h'

/-- What the body leaves in the output's staging buffer. -/
def found : Vec F S1x256x1024 .bf16 := View.canon (ran c t x3 x4 x5 x6).1

/-- Every run stores the output whole, once. -/
theorem ran_eq : ∃ w, (ran c t x3 x4 x5 x6).1 = [(⟨Rect.unit ![0, 0, 0] S1x256x1024.size (by decide), w⟩ : View.Piece (Elt F) S1x256x1024 .bf16)] := by
  unfold ran
  split
  · exact ⟨_, rfl⟩
  · split
    · exact ⟨_, rfl⟩
    · exact ⟨_, rfl⟩

theorem read_found (f) : (ms4 t).view.read (Elt F) ((ms4 t).view.writes (Elt F) f (ran c t x3 x4 x5 x6).1) = found c t x3 x4 x5 x6 := by
  refine View.read_writes_eq_canon _ _ _ fun y => ?_
  obtain ⟨w, hw⟩ := ran_eq c t x3 x4 x5 x6
  rw [hw]
  exact ⟨_, List.mem_singleton_self _, View.mem_set_unit_zero (by decide) (by decide) y⟩

/-- The two scratch buffers and the generator register, conjunct by conjunct. -/
theorem PhiA_eq : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA
  rw [scopedRest0_eq]; simp only [owns_whole]; try rfl

/-- The body at a point: from the four inputs' buffers at `x3 … x6` it returns, leaving them as they were and the output's buffer at `found`. -/
theorem body_at (K : PUnit → sProp 𝕄) :
    iprop(Pipeline.ΦA spec0 c ∗ owns (c : Thread nD τ) (ms0 t) fullShare x3 ∗ owns (c : Thread nD τ) (ms1 t) fullShare x4
        ∗ owns (c : Thread nD τ) (ms2 t) fullShare x5 ∗ owns (c : Thread nD τ) (ms3 t) fullShare x6 ∗ (∃ d, owns (c : Thread nD τ) (ms4 t) fullShare d)
        ∗ (iprop(Pipeline.ΦA spec0 c ∗ owns (c : Thread nD τ) (ms0 t) fullShare x3 ∗ owns (c : Thread nD τ) (ms1 t) fullShare x4
            ∗ owns (c : Thread nD τ) (ms2 t) fullShare x5 ∗ owns (c : Thread nD τ) (ms3 t) fullShare x6
            ∗ owns (c : Thread nD τ) (ms4 t) fullShare (found c t x3 x4 x5 x6)) -∗ K ⟨⟩))
      ⊢ wp frame (wpE (defs₀ (F := F)) Variants.none c none) Set.univ (bodyAt0 t) K := by
  rw [PhiA_eq]
  iintro ⟨⟨⟨H8, H9⟩, Hr⟩, H3, H4, H5, H6, H7, Hk⟩
  iapply ((ran c t x3 x4 x5 x6).2 Set.univ K)
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H3, H4, H5, H6, ⟨%f, H7⟩, H8, H9⟩
  iapply Hk
  isplitl [H8 H9 Hr]
  · isplitl [H8 H9]
    · isplitl [H8]; · iexact H8
      iexact H9
    iexact Hr
  isplitl [H3]; · iexact H3
  isplitl [H4]; · iexact H4
  isplitl [H5]; · iexact H5
  isplitl [H6]; · iexact H6
  unfold owns
  iexists _; isplitr; swap; · iexact H7
  ipureintro; exact read_found c t x3 x4 x5 x6 f
end

/-! ## The proof data -/

/-- The proof data on core `c`: the arrays as the region finds them; the inputs left as they were; what the output's buffer holds, `O`; each
    window its share of its array; nothing owed. The query block of the last point of a sweep overhangs the array, so of its buffer only the
    rows inside are stated. -/
def dats (O : (c : Dev nD) → (t : Fin cfg0.N) → Vec F S1x256x1024 .bf16) (_ : Fin 1) (c : Dev nD) : Dat τ (Elt F) Unit ℕ (UR sig nD τ) ℕ cfg0 c where
  A w := V m c (Pipeline.arrRef spec0 w)
  after w t := match w with
    | 0 => win0_0.fill (grid0.coords t) (View.canon []) (iblk m c 0 t)
    | 1 => iblk m c 1 t
    | 2 => iblk m c 2 t
    | 3 => iblk m c 3 t
    | 4 => O c t
  Φ _ := Pipeline.ΦA spec0 c
  q w := Pipeline.shareOf spec0 w
  owed _ := 0

variable (O : (c : Dev nD) → (t : Fin cfg0.N) → Vec F S1x256x1024 .bf16)

theorem A_eq (c : Dev nD) (w : Fin cfg0.W) : (dats m O 0 c).A w = V m c (Pipeline.arrRef spec0 w) := by dsimp only [dats]

theorem before_0 (c : Dev nD) (t : Fin cfg0.N) (d) : (dats m O 0 c).before 0 t d = win0_0.fill (grid0.coords t) d (iblk m c 0 t) := by
  unfold Dat.before; rw [if_pos (fetch0_0 t)]; rfl
theorem before_1 (c : Dev nD) (t : Fin cfg0.N) (d) : (dats m O 0 c).before 1 t d = iblk m c 1 t :=
  before0_1_of m (dats m O 0 c) (A_eq m O c 1) (fun _ => rfl) t d
theorem before_2 (c : Dev nD) (t : Fin cfg0.N) (d) : (dats m O 0 c).before 2 t d = iblk m c 2 t :=
  before0_2_of m (dats m O 0 c) (A_eq m O c 2) (fun _ => rfl) t d
theorem before_3 (c : Dev nD) (t : Fin cfg0.N) (d) : (dats m O 0 c).before 3 t d = iblk m c 3 t :=
  before0_3_of m (dats m O 0 c) (A_eq m O c 3) (fun _ => rfl) t d

/-- What the output's buffer ends with at a point, its query block filled out with `d` past the array's end. -/
def foundAt (c : Dev nD) (t : Fin cfg0.N) (d : Vec F S1x256x1024 .bf16) : Vec F S1x256x1024 .bf16 :=
  found c t (win0_0.fill (grid0.coords t) d (iblk m c 0 t)) (iblk m c 1 t) (iblk m c 2 t) (iblk m c 3 t)

/-- The output alone forgotten. -/
def forgets : Fin 5 → Bool
  | 0 => false
  | 1 => false
  | 2 => false
  | 3 => false
  | 4 => true

/-- The body's obligation with nothing stated of the output. -/
theorem body_forget (c : Dev nD) : BodyObligationLoose (dats m O 0 c) (defs₀ (F := F)) Variants.none () Set.univ forgets := fun t => by
  rw [bigSep_W0, bigSep_W0]
  simp only [forgets]
  rw [show (dats m O 0 c).Φ t.succ = Pipeline.ΦA spec0 c from rfl, show (dats m O 0 c).Φ t.castSucc = Pipeline.ΦA spec0 c from rfl,
    show (dats m O 0 c).owesAt () t.succ = (dats m O 0 c).owesAt () t.castSucc from rfl]
  iintro ⟨HΦ, Ho, ⟨%d0, H0⟩, ⟨%d1, H1⟩, ⟨%d2, H2⟩, ⟨%d3, H3⟩, ⟨%d4, H4⟩⟩
  rw [before_0 m O c t d0, before_1 m O c t d1, before_2 m O c t d2, before_3 m O c t d3]
  iapply (body_at c t (win0_0.fill (grid0.coords t) d0 (iblk m c 0 t)) (iblk m c 1 t) (iblk m c 2 t) (iblk m c 3 t) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [Ho]; · iexact Ho
  isplitl [H0]
  · iexists d0
    change _ ⊢ owns (c : Thread nD τ) (ms0 t) fullShare (win0_0.fill (grid0.coords t) d0
      (win0_0.cut (grid0.coords t) (win0_0.fill (grid0.coords t) (View.canon []) (iblk m c 0 t))))
    rw [Pipeline.Window.cut_fill]; try iexact H0
  isplitl [H1]; · iexact H1
  isplitl [H2]; · iexact H2
  isplitl [H3]; · iexact H3
  iexists _; iexact H4

/-- The body's obligation with the output stated: whatever the query block's buffer holds past the array's end, what the body leaves agrees with
    `O` on the rows inside. -/
theorem body_value (c : Dev nD) (hO : ∀ t d, win0_4.cut (grid0.coords t) (foundAt m c t d) = win0_4.cut (grid0.coords t) (O c t)) :
    BodyObligationLoose (dats m O 0 c) (defs₀ (F := F)) Variants.none () Set.univ := fun t => by
  rw [bigSep_W0, bigSep_W0]
  simp only
  rw [show (dats m O 0 c).Φ t.succ = Pipeline.ΦA spec0 c from rfl, show (dats m O 0 c).Φ t.castSucc = Pipeline.ΦA spec0 c from rfl,
    show (dats m O 0 c).owesAt () t.succ = (dats m O 0 c).owesAt () t.castSucc from rfl]
  iintro ⟨HΦ, Ho, ⟨%d0, H0⟩, ⟨%d1, H1⟩, ⟨%d2, H2⟩, ⟨%d3, H3⟩, ⟨%d4, H4⟩⟩
  rw [before_0 m O c t d0, before_1 m O c t d1, before_2 m O c t d2, before_3 m O c t d3]
  iapply (body_at c t (win0_0.fill (grid0.coords t) d0 (iblk m c 0 t)) (iblk m c 1 t) (iblk m c 2 t) (iblk m c 3 t) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [Ho]; · iexact Ho
  isplitl [H0]
  · iexists d0
    change _ ⊢ owns (c : Thread nD τ) (ms0 t) fullShare (win0_0.fill (grid0.coords t) d0
      (win0_0.cut (grid0.coords t) (win0_0.fill (grid0.coords t) (View.canon []) (iblk m c 0 t))))
    rw [Pipeline.Window.cut_fill]; try iexact H0
  isplitl [H1]; · iexact H1
  isplitl [H2]; · iexact H2
  isplitl [H3]; · iexact H3
  iexists (foundAt m c t d0)
  change _ ⊢ owns (c : Thread nD τ) (ms4 t) fullShare (win0_4.fill (grid0.coords t) (foundAt m c t d0) (win0_4.cut (grid0.coords t) (O c t)))
  rw [← hO t d0, Pipeline.Window.fill_cut]; try unfold foundAt; rfl

/-! ## The runs of the whole program -/

set_option backward.isDefEq.respectTransparency.types false in
/-- From any memory every execution of @main terminates, with the query/key/value array as it was and every counter back at zero. -/
theorem run_main :
    θ_run defs (onTc (τ := τ) (main (F := F))) (s₀ m ρ) (fun r => (∀ c : Dev nD, r.2.mem ((c.tc : Thread nD τ).loc main_arg0) = m ((c.tc : Thread nD τ).loc main_arg0))
      ∧ r.2.sem = fun _ => 0) :=
  Pipeline.θ_run_frame_forget_shared cfgs (dats m fun _ _ => View.canon []) 0 launch₀0 defs₀ Variants.none forgets m ρ main
    (fun c => body_forget m _ c) (fun _ _ _ => rfl) (fun _ _ => rfl) (V m) (hmain m Variants.none) (fun _ _ => rfl) (fun _ _ => rfl) _
    (fun r h => ⟨fun c => (Pipeline.RDat.FramePost.arr_in h.1 c 1 rfl).trans (V_main_arg0 m c), h.2⟩)

set_option backward.isDefEq.respectTransparency.types false in
/-- The run with the output stated at every point: every array of the kernel ends as the write-backs of `O` leave it. -/
theorem run_value (hO : ∀ c t d, win0_4.cut (grid0.coords t) (foundAt m c t d) = win0_4.cut (grid0.coords t) (O c t)) :
    θ_run defs (onTc (τ := τ) (main (F := F))) (s₀ m ρ) (fun r => Pipeline.FramePost cfgs (dats m O) 0 (V m) r ∧ r.2.sem = fun _ => 0) :=
  Pipeline.θ_run_frame_shared cfgs (dats m O) 0 launch₀0 defs₀ Variants.none m ρ main
    (fun c => body_value m O c (hO c)) (fun _ _ _ => rfl) (fun _ _ => rfl) (V m) (hmain m Variants.none) (fun _ _ => rfl) (fun _ _ => rfl) _

end Cert.Proof

end
-- ==== Proof.Step.lean ====
module

public import proofs.«01_k».proof.Proof.Body

@[expose] public section

set_option maxRecDepth 16384

noncomputable section

namespace Cert.Proof

open Cert.KernelIdeal Cert.KernelIdeal.Gen
open Idealize.ShloMosaic Idealize.ShloMosaic.TcCoe

variable {F : FTy → Type} [FloatOps F]

/-! ## One step of the sweep over the keys, as a function of what it is given -/

/-- Eight heads' carried pairs: the sum of the logs so far, and the weighted sum of the values so far. -/
abbrev St (F : FTy → Type) := Fin 8 → FVec F S256x128 .f32 × FVec F S256x128 .f32

/-- The carried pairs as the loop holds them. -/
def tup (s : St F) := ((s 0).1, (s 0).2, (s 1).1, (s 1).2, (s 2).1, (s 2).2, (s 3).1, (s 3).2, (s 4).1, (s 4).2, (s 5).1, (s 5).2,
  (s 6).1, (s 6).2, (s 7).1, (s 7).2)

/-- The negated scaled scores of a block of 256 queries against a block of 256 keys; -/
def zneg (q : FVec F S256x128 .bf16) (k : Vec F S1x256x128 .bf16) : FVec F S256x256 .f32 :=
  mulf (matmul dot_S256x128_S256x128_S256x256_1_1_0_0_n_n none q (shapeCast S256x128 k shapeCasts_S1x256x128_S256x128) (constant S256x256 .f32 0x00000000#32))
    (broadcast S256x256 (Scalar.ofBits .f32 0xBDB504F3#32))

/-- the log of one minus the weight each score gives; -/
def lg {s : Shape} (z : FVec F s .f32) : FVec F s .f32 :=
  subf (minimumf z (broadcast s (Scalar.ofBits .f32 0x00000000#32)))
    (log (maximumf (addf (broadcast s (Scalar.ofBits .f32 0x3F800000#32)) (exp (subf (broadcast s (Scalar.ofBits .f32 0x00000000#32)) (absf z))))
      (broadcast s (Scalar.ofBits .f32 0x3F800000#32))))

/-- its left and right halves, sixteen pieces one below the other; -/
def stack (L : Fin 8 → FVec F S256x256 .f32) : FVec F S4096x128 .f32 :=
  have lo (g : Fin 8) := extractStridedSlice S256x128 ![0, 0] (L g) slices_S256x256_o0_0_S256x128
  have hi (g : Fin 8) := extractStridedSlice S256x128 ![0, 128] (L g) slices_S256x256_o0_128_S256x128
  concatenate S4096x128 0 [⟨S256x128, lo 0⟩, ⟨S256x128, hi 0⟩, ⟨S256x128, lo 1⟩, ⟨S256x128, hi 1⟩, ⟨S256x128, lo 2⟩, ⟨S256x128, hi 2⟩,
    ⟨S256x128, lo 3⟩, ⟨S256x128, hi 3⟩, ⟨S256x128, lo 4⟩, ⟨S256x128, hi 4⟩, ⟨S256x128, lo 5⟩, ⟨S256x128, hi 5⟩, ⟨S256x128, lo 6⟩, ⟨S256x128, hi 6⟩,
    ⟨S256x128, lo 7⟩, ⟨S256x128, hi 7⟩]
    concatenates_S256x128_S256x128_S256x128_S256x128_S256x128_S256x128_S256x128_S256x128_S256x128_S256x128_S256x128_S256x128_S256x128_S256x128_S256x128_S256x128_S4096x128_d0

/-- every row of it summed over the columns the mask `cm` keeps, the high and the low part of each entry side by side. -/
def sums (cm : FVec F S256x256 .bf16) (x : FVec F S4096x128 .f32) : FVec F S4096x256 .f32 :=
  have h := truncf .bf16 x bitsLt_bf16_f32
  matmul dot_S4096x256_S256x256_S4096x256_1_0_0_1_n_n none
    (concatenate S4096x256 1 [⟨S4096x128, h⟩, ⟨S4096x128, truncf .bf16 (subf x (extf .f32 h bitsLt_bf16_f32)) bitsLt_bf16_f32⟩]
      concatenates_S4096x128_S4096x128_S4096x256_d1) cm (constant S4096x256 .f32 0x00000000#32)

theorem slices_sums (g : Fin 8) (p : Fin 2) : S4096x256.Slices ![512 * g.val + 256 * p.val, 0] S256x256 :=
  (by decide : ∀ (g : Fin 8) (p : Fin 2), S4096x256.Slices ![512 * g.val + 256 * p.val, 0] S256x256) g p

/-- One head's sums, of its left half or of its right half. -/
def part (S : FVec F S4096x256 .f32) (g : Fin 8) (p : Fin 2) : FVec F S256x256 .f32 :=
  extractStridedSlice S256x256 ![512 * g.val + 256 * p.val, 0] S (slices_sums g p)

/-- The carried sum after the right half; -/
def mid (S : FVec F S4096x256 .f32) (g : Fin 8) (cy : FVec F S256x128 .f32) : FVec F S256x128 .f32 :=
  addf cy (extractStridedSlice S256x128 ![0, 128] (part S g 1) slices_S256x256_o0_128_S256x128)

/-- the carried sum after both; -/
def newC (S : FVec F S4096x256 .f32) (g : Fin 8) (cy : FVec F S256x128 .f32) : FVec F S256x128 .f32 :=
  addf (mid S g cy) (extractStridedSlice S256x128 ![0, 128] (part S g 0) slices_S256x256_o0_128_S256x128)

/-- the log of the weights; -/
def logit (S : FVec F S4096x256 .f32) (g : Fin 8) (cy : FVec F S256x128 .f32) (z : FVec F S256x256 .f32) : FVec F S256x256 .f32 :=
  subf (concatenate S256x256 1 [⟨S256x128, addf (extractStridedSlice S256x128 ![0, 0] (part S g 0) slices_S256x256_o0_0_S256x128) (mid S g cy)⟩,
    ⟨S256x128, addf (extractStridedSlice S256x128 ![0, 0] (part S g 1) slices_S256x256_o0_0_S256x128) cy⟩] concatenates_S256x128_S256x128_S256x256_d1) z

/-- the values weighted, added to the weighted sum so far. -/
def newA (a : FVec F S256x128 .f32) (w : FVec F S256x256 .f32) (v : Vec F S1x256x128 .bf16) : FVec F S256x128 .f32 :=
  addf a (matmul dot_S256x256_S256x128_S256x128_1_0_0_1_n_n none (truncf .bf16 w bitsLt_bf16_f32)
    (shapeCast S256x128 v shapeCasts_S1x256x128_S256x128) (constant S256x128 .f32 0x00000000#32))

/-- A step over 256 keys all of which are in view. -/
def stepF (q : Fin 8 → FVec F S256x128 .bf16) (cm : FVec F S256x256 .bf16) (k v : Fin 8 → Vec F S1x256x128 .bf16) (s : St F) : St F := fun g =>
  have S := sums cm (stack fun g => lg (zneg (q g) (k g)))
  (newC S g (s g).1, newA (s g).2 (exp (logit S g (s g).1 (zneg (q g) (k g)))) (v g))

/-- The carried pairs at the start: zero. -/
def zeroS : St F := fun _ => (broadcast S256x128 (Scalar.ofBits .f32 0x00000000#32), broadcast S256x128 (Scalar.ofBits .f32 0x00000000#32))

/-- Column before row. -/
def caus : IVec S256x256 1 := cmpi .slt (iota .tc S256x256 32 [1] iota_S256x256_d1_w32) (iota .tc S256x256 32 [0] iota_S256x256_d0_w32)

/-- The masked entries replaced by zero. -/
def masked {s : Shape} (b : IVec s 1) (x : FVec F s .f32) : FVec F s .f32 := select b x (broadcast s (Scalar.ofBits .f32 0x00000000#32))

/-- The step over the 256 keys of the queries' own block, each query seeing the keys before it. -/
def stepD (q : Fin 8 → FVec F S256x128 .bf16) (cm : FVec F S256x256 .bf16) (k v : Fin 8 → Vec F S1x256x128 .bf16) (s : St F) : St F := fun g =>
  have S := sums cm (stack fun g => masked caus (lg (zneg (q g) (k g))))
  (newC S g (s g).1, newA (s g).2 (masked caus (exp (logit S g (s g).1 (zneg (q g) (k g))))) (v g))

/-! ### The ninth block: sixteen keys, filled out to 128 -/

/-- Sixteen rows filled out with zeros; -/
def pad (x : Vec F S1x16x128 .bf16) : FVec F S128x128 .bf16 :=
  concatenate S128x128 0 [⟨S16x128, shapeCast S16x128 x shapeCasts_S1x16x128_S16x128⟩, ⟨S112x128, broadcast S112x128 (Scalar.ofBits .bf16 0x0000#16)⟩]
    concatenates_S16x128_S112x128_S128x128_d0

/-- the negated scaled scores; -/
def znegT (q : FVec F S256x128 .bf16) (k : Vec F S1x16x128 .bf16) : FVec F S256x128 .f32 :=
  mulf (matmul dot_S256x128_S128x128_S256x128_1_1_0_0_n_n none q (pad k) (constant S256x128 .f32 0x00000000#32))
    (broadcast S256x128 (Scalar.ofBits .f32 0xBDB504F3#32))

/-- the eight pieces one below the other; -/
def stackT (L : Fin 8 → FVec F S256x128 .f32) : FVec F S2048x128 .f32 :=
  concatenate S2048x128 0 [⟨S256x128, L 0⟩, ⟨S256x128, L 1⟩, ⟨S256x128, L 2⟩, ⟨S256x128, L 3⟩, ⟨S256x128, L 4⟩, ⟨S256x128, L 5⟩, ⟨S256x128, L 6⟩,
    ⟨S256x128, L 7⟩] concatenates_S256x128_S256x128_S256x128_S256x128_S256x128_S256x128_S256x128_S256x128_S2048x128_d0

/-- every row summed over the columns `cm` keeps; -/
def sumsT (cm : FVec F S256x256 .bf16) (x : FVec F S2048x128 .f32) : FVec F S2048x256 .f32 :=
  have h := truncf .bf16 x bitsLt_bf16_f32
  matmul dot_S2048x256_S256x256_S2048x256_1_0_0_1_n_n none
    (concatenate S2048x256 1 [⟨S2048x128, h⟩, ⟨S2048x128, truncf .bf16 (subf x (extf .f32 h bitsLt_bf16_f32)) bitsLt_bf16_f32⟩]
      concatenates_S2048x128_S2048x128_S2048x256_d1) cm (constant S2048x256 .f32 0x00000000#32)

theorem slices_sumsT (g : Fin 8) : S2048x256.Slices ![256 * g.val, 0] S256x256 :=
  (by decide : ∀ (g : Fin 8), S2048x256.Slices ![256 * g.val, 0] S256x256) g

/-- one head's sums; -/
def partT (S : FVec F S2048x256 .f32) (g : Fin 8) : FVec F S256x256 .f32 := extractStridedSlice S256x256 ![256 * g.val, 0] S (slices_sumsT g)

/-- column before row, 128 columns. -/
def causT : IVec S256x128 1 := cmpi .slt (iota .tc S256x128 32 [1] iota_S256x128_d1_w32) (iota .tc S256x128 32 [0] iota_S256x128_d0_w32)

/-- The step over the last sixteen keys. -/
def stepT (q : Fin 8 → FVec F S256x128 .bf16) (cm : FVec F S256x256 .bf16) (k v : Fin 8 → Vec F S1x16x128 .bf16) (s : St F) : St F := fun g =>
  have S := sumsT cm (stackT fun g => masked causT (lg (znegT (q g) (k g))))
  (addf (s g).1 (extractStridedSlice S256x128 ![0, 128] (partT S g) slices_S256x256_o0_128_S256x128),
   addf (s g).2 (matmul dot_S256x128_S128x128_S256x128_1_0_0_1_n_n none
    (truncf .bf16 (masked causT (exp (subf (addf (extractStridedSlice S256x128 ![0, 0] (partT S g) slices_S256x256_o0_0_S256x128) (s g).1)
      (znegT (q g) (k g))))) bitsLt_bf16_f32) (pad (v g)) (constant S256x128 .f32 0x00000000#32)))

/-- The eight heads' results side by side. -/
def outF (s : St F) : FVec F S1x256x1024 .bf16 :=
  shapeCast S1x256x1024 (truncf .bf16 (concatenate S256x1024 1 [⟨S256x128, (s 0).2⟩, ⟨S256x128, (s 1).2⟩, ⟨S256x128, (s 2).2⟩, ⟨S256x128, (s 3).2⟩,
    ⟨S256x128, (s 4).2⟩, ⟨S256x128, (s 5).2⟩, ⟨S256x128, (s 6).2⟩, ⟨S256x128, (s 7).2⟩]
    concatenates_S256x128_S256x128_S256x128_S256x128_S256x128_S256x128_S256x128_S256x128_S256x1024_d1) bitsLt_bf16_f32) shapeCasts_S256x1024_S1x256x1024

/-! ## What is read and where -/

theorem inbQ (g : Fin 8) : ∀ a, (![0, 0, 128 * g.val] : Fin 3 → Nat) a + S1x256x128.size a ≤ S1x256x1024.size a :=
  (by decide : ∀ g : Fin 8, ∀ a, (![0, 0, 128 * g.val] : Fin 3 → Nat) a + S1x256x128.size a ≤ S1x256x1024.size a) g
theorem inbS (g : Fin 8) : ∀ a, (![g.val, 0, 0] : Fin 3 → Nat) a + S1x256x128.size a ≤ S8x256x128.size a :=
  (by decide : ∀ g : Fin 8, ∀ a, (![g.val, 0, 0] : Fin 3 → Nat) a + S1x256x128.size a ≤ S8x256x128.size a) g

section
variable (arg3 : Memref sig .tc .vmem S1x256x1024 .bf16) (harg3 : arg3.IsWhole) (arg4 : Memref sig .tc .vmem S1x2064x1024 .bf16) (harg4 : arg4.IsWhole)
  (arg6 : Memref sig .tc .vmem S256x256 .bf16) (harg6 : arg6.IsWhole)
  (arg8 : Memref sig .tc .vmem S8x256x128 .f32) (x3 : Vec F S1x256x1024 .bf16) (x4 : Vec F S1x2064x1024 .bf16) (x6 : Vec F S256x256 .bf16)

/-- One head's queries; -/
def ldQ (g : Fin 8) : FVec F S256x128 .bf16 :=
  shapeCast S256x128 (View.readAt (Elt F) arg3.view (Rect.unit (s := S1x256x1024) ![0, 0, 128 * g.val] S1x256x128.size (inbQ g)).toLoadRect (harg3.unread x3))
    shapeCasts_S1x256x128_S256x128
/-- a block of keys or values; -/
def ldB (o : Fin 3 → ℕ) (h : ∀ a, o a + S1x256x128.size a ≤ S1x2064x1024.size a) : Vec F S1x256x128 .bf16 :=
  View.readAt (Elt F) arg4.view (Rect.unit (s := S1x2064x1024) o S1x256x128.size h).toLoadRect (harg4.unread x4)
/-- the mask. -/
def ldM : FVec F S256x256 .bf16 :=
  shapeCast S256x256 (View.readAt (Elt F) arg6.view (Rect.unit (s := S256x256) ![0, 0] S256x256.size inb_S256x256_S256x256_0_0).toLoadRect (harg6.unread x6)) shapeCasts_S256x256_S256x256

/-- Eight heads' blocks stored one after the other, over what was stored before. -/
def put (P : Fin 8 → FVec F S256x128 .f32) (L : List (View.Piece (Elt F) S8x256x128 .f32)) : List (View.Piece (Elt F) S8x256x128 .f32) :=
  have p (g : Fin 8) : View.Piece (Elt F) S8x256x128 .f32 :=
    ⟨Rect.unit (s := S8x256x128) ![g.val, 0, 0] S1x256x128.size (inbS g), shapeCast S1x256x128 (P g) shapeCasts_S256x128_S1x256x128⟩
  p 7 :: p 6 :: p 5 :: p 4 :: p 3 :: p 2 :: p 1 :: p 0 :: L
/-- One head's block read back. -/
def get (L : List (View.Piece (Elt F) S8x256x128 .f32)) (g : Fin 8) : FVec F S256x128 .f32 :=
  shapeCast S256x128 (arg8.view.readCov L (Rect.unit (s := S8x256x128) ![g.val, 0, 0] S1x256x128.size (inbS g)).toLoadRect) shapeCasts_S1x256x128_S256x128
end

end Cert.Proof

end
-- ==== Proof.Row.lean ====
module

public import Idealize.ShloMosaic.Lib.Pointwise

@[expose] public section

noncomputable section

namespace Cert.Proof

open Idealize.ShloMosaic
open Finset (Ico)

/-! ## One row of the attention as sums over the keys -/

/-- The log of one minus the weight a negated score `z` gives: `min z 0 - log (1 + exp (-|z|))`, the argument of the logarithm held from below
    by one, as it always is. -/
def lgS (z : EReal) : EReal := min z 0 - Ideal.log (max (1 + Ideal.exp (0 - max z (-z))) 1)

/-- A number past every key: nine blocks of 256. -/
abbrev N : ℕ := 2304

/-- What one query and one head see: the query, the keys and values by number, and how many keys are before the query. -/
structure Row where
  q : Fin 128 → EReal
  k : ℕ → Fin 128 → EReal
  v : ℕ → Fin 128 → EReal
  i : ℕ

namespace Row
variable (R : Row)

/-- The negated scaled score of key `j`. -/
def z (j : ℕ) : EReal := (∑ e, R.q e * R.k j e) * Ideal.ofBits .f32 0xBDB504F3#32
/-- The log of one minus its weight, zero past the query. -/
def lk (j : ℕ) : EReal := if j < R.i then lgS (R.z j) else 0
/-- The sum of those logs from key `J` on. -/
def C (J : ℕ) : EReal := ∑ j ∈ Ico J N, R.lk j
/-- The weight of key `j`, zero past the query. -/
def W (j : ℕ) : EReal := if j < R.i then Ideal.exp (R.C j - R.z j) else 0
/-- The values from key `J` on, weighted and summed. -/
def A (d : Fin 128) (J : ℕ) : EReal := ∑ j ∈ Ico J N, R.W j * R.v j d

theorem C_end (J : ℕ) (h : R.i ≤ J) : R.C J = 0 :=
  Finset.sum_eq_zero fun j hj => if_neg (by rw [Finset.mem_Ico] at hj; omega)
theorem A_end (d : Fin 128) (J : ℕ) (h : R.i ≤ J) : R.A d J = 0 :=
  Finset.sum_eq_zero fun j hj => by rw [W, if_neg (by rw [Finset.mem_Ico] at hj; omega), zero_mul]

/-- The sum splits at any key. -/
theorem C_split (a b : ℕ) (h : a ≤ b) (hb : b ≤ N) : (∑ j ∈ Ico a b, R.lk j) + R.C b = R.C a := Finset.sum_Ico_consecutive _ h hb

theorem A_split (d : Fin 128) (a n : ℕ) (hb : a + n ≤ N) : R.A d (a + n) + ∑ j : Fin n, R.W (a + j.val) * R.v (a + j.val) d = R.A d a := by
  have h : ∑ j : Fin n, R.W (a + j.val) * R.v (a + j.val) d = ∑ j ∈ Ico a (a + n), R.W j * R.v j d := by
    rw [Fin.sum_univ_eq_sum_range (fun j => R.W (a + j) * R.v (a + j) d) n, Finset.sum_Ico_eq_sum_range]
    simp
  rw [h, add_comm]
  exact Finset.sum_Ico_consecutive _ (by omega) hb
end Row

/-- A sum over the positions from `j` on is a sum over a shifted interval. -/
theorem sum_from (f : ℕ → EReal) (a n j : ℕ) : ∑ k : Fin n, (if j ≤ k.val then f (a + k.val) else 0) = ∑ k ∈ Ico (a + j) (a + n), f k := by
  rw [Fin.sum_univ_eq_sum_range (fun k => if j ≤ k then f (a + k) else 0) n, ← Finset.sum_filter, add_comm a j, add_comm a n,
    ← Finset.sum_Ico_add f j n a]
  refine Finset.sum_congr ?_ fun _ _ => rfl
  ext k
  simp only [Finset.mem_filter, Finset.mem_range, Finset.mem_Ico]
  omega

/-- An entry and what is left of it after it is taken away. -/
theorem hi_lo (x m : EReal) (hx : x ≠ ⊤) (hm : m = 0 ∨ m = 1) : x * m + (x - x) * m = x * m := by
  rcases hm with rfl | rfl
  · simp
  · rw [mul_one, mul_one]
    induction x with
    | bot => rfl
    | top => exact absurd rfl hx
    | coe r => rw [← EReal.coe_sub, ← EReal.coe_add]; congr 1; ring

/-- A log of one minus a weight is never `⊤`. -/
theorem lgS_ne_top (z : EReal) : lgS z ≠ ⊤ := by
  unfold lgS
  have h1 : min z 0 ≠ ⊤ := ne_of_lt (lt_of_le_of_lt (min_le_right _ _) EReal.zero_lt_top)
  generalize hx : max (1 + Ideal.exp (0 - max z (-z))) 1 = x
  have h2 : (1 : EReal) ≤ x := hx ▸ le_max_right _ _
  have h3 : Ideal.log x ≠ ⊥ := by
    induction x with
    | bot => exact absurd h2 (not_le_of_gt EReal.bot_lt_zero |>.imp fun h => le_trans zero_le_one h)
    | top => exact top_ne_bot
    | coe r =>
      have h4 : (1 : ℝ) ≤ r := by exact_mod_cast h2
      show (if r ≤ 0 then (⊥ : EReal) else (Real.log r : EReal)) ≠ ⊥
      rw [if_neg (by linarith)]
      exact EReal.coe_ne_bot _
  rw [sub_eq_add_neg]
  exact EReal.add_ne_top h1 (by rw [Ne, EReal.neg_eq_top_iff]; exact h3)

/-- No such log is `⊤`. -/
theorem Row.lk_ne_top (R : Row) (j : ℕ) : R.lk j ≠ ⊤ := by
  unfold Row.lk
  split
  · exact lgS_ne_top _
  · exact EReal.zero_ne_top

end Cert.Proof
-- ==== Proof.StepRead.lean ====
module

public import proofs.«01_k».proof.Proof.Step
public import proofs.«01_k».proof.Proof.Row

@[expose] public section

set_option maxRecDepth 16384

noncomputable section

namespace Cert.Proof

open Cert.KernelIdeal Cert.KernelIdeal.Gen
open Idealize.ShloMosaic Idealize.ShloMosaic.TcCoe
open Finset (Ico)

/-! ## Each piece of a step read at an entry, over the extended reals -/

theorem zneg_apply (q : FVec Ideal S256x128 .bf16) (k : Vec Ideal S1x256x128 .bf16) (r j : Fin 256) :
    zneg q k (ix2 r j) = (∑ x, q (ix2 r x) * k (ix3 0 j x)) * Ideal.ofBits .f32 0xBDB504F3#32 := by
  pointwise [zneg]

theorem znegT_apply (q : FVec Ideal S256x128 .bf16) (k : Vec Ideal S1x16x128 .bf16) (r : Fin 256) (j : Fin 128) :
    znegT q k (ix2 r j) = (∑ x, q (ix2 r x) * pad k (ix2 j x)) * Ideal.ofBits .f32 0xBDB504F3#32 := by
  pointwise [znegT]

theorem lg_apply {s : Shape} (z : FVec Ideal s .f32) (i : s.Idx) : lg z i = lgS (z i) := by
  unfold lgS
  pointwise [lg]
  rfl

/-- The mask: a row of the left half keeps, in each half, the entries from its own column on; the right half keeps all. -/
def IsMask (cm : FVec Ideal S256x256 .bf16) : Prop :=
  ∀ k j : Fin 256, cm (ix2 k j) = if (if j.val < 128 then j.val else 0) ≤ k.val % 128 then 1 else 0

/-- What the product with the mask sums, when the entries of the row are numbered on from `a`. -/
theorem mask_row (cm : FVec Ideal S256x256 .bf16) (hcm : IsMask cm) (f : ℕ → EReal) (hf : ∀ n, f n ≠ ⊤) (a : ℕ) (j : Fin 256) :
    (∑ k : Fin 128, f (a + k.val) * cm (ix2 ⟨k.val, by omega⟩ j)) + ∑ k : Fin 128, (f (a + k.val) - f (a + k.val)) * cm (ix2 ⟨128 + k.val, by omega⟩ j)
      = ∑ k ∈ Ico (a + if j.val < 128 then j.val else 0) (a + 128), f k := by
  rw [← sum_from f a 128, ← Finset.sum_add_distrib]
  refine Finset.sum_congr rfl fun k _ => ?_
  rw [hcm ⟨k.val, by omega⟩ j, hcm ⟨128 + k.val, by omega⟩ j]
  have h1 : k.val % 128 = k.val := Nat.mod_eq_of_lt k.isLt
  have h2 : (128 + k.val) % 128 = k.val := by omega
  simp only [h1, h2]
  rw [hi_lo _ _ (hf _) (ite_eq_or_eq _ _ _).symm, mul_ite, mul_one, mul_zero]

theorem sums_row (cm : FVec Ideal S256x256 .bf16) (hcm : IsMask cm) (x : FVec Ideal S4096x128 .f32) (r : Fin 4096) (f : ℕ → EReal)
    (hf : ∀ n, f n ≠ ⊤) (a : ℕ) (h : ∀ k : Fin 128, x (ix2 r k) = f (a + k.val)) (j : Fin 256) :
    sums cm x (ix2 r j) = ∑ k ∈ Ico (a + if j.val < 128 then j.val else 0) (a + 128), f k := by
  rw [← mask_row cm hcm f hf a j]
  simp only [← h]
  pointwise [sums]

theorem sumsT_row (cm : FVec Ideal S256x256 .bf16) (hcm : IsMask cm) (x : FVec Ideal S2048x128 .f32) (r : Fin 2048) (f : ℕ → EReal)
    (hf : ∀ n, f n ≠ ⊤) (a : ℕ) (h : ∀ k : Fin 128, x (ix2 r k) = f (a + k.val)) (j : Fin 256) :
    sumsT cm x (ix2 r j) = ∑ k ∈ Ico (a + if j.val < 128 then j.val else 0) (a + 128), f k := by
  rw [← mask_row cm hcm f hf a j]
  simp only [← h]
  pointwise [sumsT]

theorem part_apply (S : FVec Ideal S4096x256 .f32) (g : Fin 8) (p : Fin 2) (r j : Fin 256) :
    part S g p (ix2 r j) = S (ix2 ⟨512 * g.val + 256 * p.val + r.val, by omega⟩ j) := by
  pointwise [part]

theorem partT_apply (S : FVec Ideal S2048x256 .f32) (g : Fin 8) (r j : Fin 256) :
    partT S g (ix2 r j) = S (ix2 ⟨256 * g.val + r.val, by omega⟩ j) := by
  pointwise [partT]

/-- One of the sixteen pieces. -/
def piece (L : Fin 8 → FVec Ideal S256x256 .f32) (n : Fin 16) : FVec Ideal S256x128 .f32 :=
  if n.val % 2 = 0 then extractStridedSlice S256x128 ![0, 0] (L ⟨n.val / 2, by omega⟩) slices_S256x256_o0_0_S256x128
  else extractStridedSlice S256x128 ![0, 128] (L ⟨n.val / 2, by omega⟩) slices_S256x256_o0_128_S256x128

theorem piece_apply (L : Fin 8 → FVec Ideal S256x256 .f32) (g : Fin 8) (p : Fin 2) (r : Fin 256) (j : Fin 128) :
    piece L ⟨2 * g.val + p.val, by omega⟩ (ix2 r j) = L g (ix2 r ⟨128 * p.val + j.val, by omega⟩) := by
  have h : (2 * g.val + p.val) / 2 = g.val := by omega
  unfold piece
  simp only [h]
  obtain rfl | rfl : p = 0 ∨ p = 1 := by omega
  · rw [if_pos (by show (2 * g.val + 0) % 2 = 0; omega)]
    pointwise
  · rw [if_neg (by show ¬(2 * g.val + 1) % 2 = 0; omega)]
    pointwise

theorem stack_apply (L : Fin 8 → FVec Ideal S256x256 .f32) (g : Fin 8) (p : Fin 2) (r : Fin 256) (j : Fin 128) :
    stack L (ix2 ⟨512 * g.val + 256 * p.val + r.val, by omega⟩ j) = L g (ix2 r ⟨128 * p.val + j.val, by omega⟩) := by
  rw [← piece_apply L g p r j]
  refine concatenate_ofFn_apply (t := S4096x128) (s₁ := S256x128) 0 (piece L)
    concatenates_S256x128_S256x128_S256x128_S256x128_S256x128_S256x128_S256x128_S256x128_S256x128_S256x128_S256x128_S256x128_S256x128_S256x128_S256x128_S256x128_S4096x128_d0 rfl 256 rfl _ _ ?_ _ ?_ ?_
  · show (512 * g.val + 256 * p.val + r.val) / 256 = 2 * g.val + p.val
    omega
  · show r.val = (512 * g.val + 256 * p.val + r.val) % 256
    omega
  · intro b hb
    match b with
    | ⟨0, _⟩ => exact absurd rfl hb
    | ⟨1, _⟩ => rfl

theorem stackT_apply (L : Fin 8 → FVec Ideal S256x128 .f32) (g : Fin 8) (r : Fin 256) (j : Fin 128) :
    stackT L (ix2 ⟨256 * g.val + r.val, by omega⟩ j) = L g (ix2 r j) := by
  refine concatenate_ofFn_apply (t := S2048x128) (s₁ := S256x128) 0 L _ rfl 256 rfl _ _ ?_ _ ?_ ?_
  · show (256 * g.val + r.val) / 256 = g.val
    omega
  · show r.val = (256 * g.val + r.val) % 256
    omega
  · intro b hb
    match b with
    | ⟨0, _⟩ => exact absurd rfl hb
    | ⟨1, _⟩ => rfl

theorem out_cast (y : FVec Ideal S256x1024 .f32) (r : Fin 256) (c : Fin 1024) :
    shapeCast S1x256x1024 (truncf .bf16 y bitsLt_bf16_f32) shapeCasts_S256x1024_S1x256x1024 (ix3 0 r c) = y (ix2 r c) := by
  pointwise

theorem outF_apply (s : St Ideal) (g : Fin 8) (r : Fin 256) (d : Fin 128) :
    outF s (ix3 0 r ⟨128 * g.val + d.val, by omega⟩) = (s g).2 (ix2 r d) := by
  have h : outF s (ix3 0 r ⟨128 * g.val + d.val, by omega⟩)
      = concatenate S256x1024 1 (List.ofFn fun n : Fin 8 => (⟨S256x128, (s n).2⟩ : (s : Shape) × (s.Idx → EReal)))
        concatenates_S256x128_S256x128_S256x128_S256x128_S256x128_S256x128_S256x128_S256x128_S256x1024_d1 (ix2 r ⟨128 * g.val + d.val, by omega⟩) := by
    exact out_cast _ r _
  rw [h]
  refine concatenate_ofFn_apply (t := S256x1024) (s₁ := S256x128) 1 (fun n => (s n).2) _ rfl 128 rfl _ _ ?_ _ ?_ ?_
  · show (128 * g.val + d.val) / 128 = g.val
    omega
  · show d.val = (128 * g.val + d.val) % 128
    omega
  · intro b hb
    match b with
    | ⟨0, _⟩ => rfl
    | ⟨1, _⟩ => exact absurd rfl hb

theorem newC_apply (S : FVec Ideal S4096x256 .f32) (g : Fin 8) (cy : FVec Ideal S256x128 .f32) (r : Fin 256) (j : Fin 128) :
    newC S g cy (ix2 r j) = cy (ix2 r j) + part S g 1 (ix2 r ⟨128 + j.val, by omega⟩) + part S g 0 (ix2 r ⟨128 + j.val, by omega⟩) := by
  pointwise [mid, newC]

theorem logit_apply (S : FVec Ideal S4096x256 .f32) (g : Fin 8) (cy : FVec Ideal S256x128 .f32) (z) (r j : Fin 256) :
    logit S g cy z (ix2 r j) = (if h : j.val < 128 then part S g 0 (ix2 r j) + (cy (ix2 r ⟨j.val, h⟩) + part S g 1 (ix2 r ⟨128 + j.val, by omega⟩))
      else part S g 1 (ix2 r ⟨j.val - 128, by omega⟩) + cy (ix2 r ⟨j.val - 128, by omega⟩)) - z (ix2 r j) := by
  pointwise [mid, logit]

theorem newA_apply (a : FVec Ideal S256x128 .f32) (w : FVec Ideal S256x256 .f32) (v : Vec Ideal S1x256x128 .bf16) (r : Fin 256) (j : Fin 128) :
    newA a w v (ix2 r j) = a (ix2 r j) + ∑ x, w (ix2 r x) * v (ix3 0 x j) := by
  pointwise [newA]

theorem sel_lt (a b : ℕ) (ha : a < 256) (hb : b < 256) (x y : EReal) :
    Scalar.select (IntOp.cmpi .slt (BitVec.ofNat 32 a) (BitVec.ofNat 32 b)) x y = if a < b then x else y := by
  rw [WordCmp.cmpi_slt_ofNat (by omega) (by omega)]
  by_cases h : a < b <;> simp [h, Scalar.select]

theorem masked_apply (x : FVec Ideal S256x256 .f32) (r j : Fin 256) :
    masked caus x (ix2 r j) = if j.val < r.val then x (ix2 r j) else 0 := by
  rw [← sel_lt j.val r.val (by omega) (by omega)]
  pointwise [masked, caus]

theorem maskedT_apply (x : FVec Ideal S256x128 .f32) (r : Fin 256) (j : Fin 128) :
    masked causT x (ix2 r j) = if j.val < r.val then x (ix2 r j) else 0 := by
  rw [← sel_lt j.val r.val (by omega) (by omega)]
  pointwise [masked, causT]

theorem pad_apply (x : Vec Ideal S1x16x128 .bf16) (r : Fin 128) (j : Fin 128) :
    pad x (ix2 r j) = if h : r.val < 16 then x (ix3 0 ⟨r.val, h⟩ j) else 0 := by
  pointwise [pad]

/-! ## What one row carries through a step -/

/-- The pair a head carries, at one row: the sum of the logs from key `J` on, in every column, and the weighted values. -/
def Good (R : Row) (r : Fin 256) (J : ℕ) (p : FVec Ideal S256x128 .f32 × FVec Ideal S256x128 .f32) : Prop :=
  (∀ c, p.1 (ix2 r c) = R.C J) ∧ ∀ d, p.2 (ix2 r d) = R.A d J

/-- Past the query nothing is carried. -/
theorem zeroS_good (R : Row) (r : Fin 256) (g : Fin 8) (J : ℕ) (h : R.i ≤ J) : Good R r J (zeroS g) :=
  ⟨fun _ => by rw [R.C_end J h]; exact Ideal.ofBits_zero_f32, fun d => by rw [R.A_end d J h]; exact Ideal.ofBits_zero_f32⟩

section
variable (cm : FVec Ideal S256x256 .bf16) (hcm : IsMask cm) (R : Row) (r : Fin 256) (g : Fin 8) (J : ℕ)
include hcm

/-- The sums of a step: what is carried on, and the log of each weight. -/
theorem core (hJ : J + 256 ≤ N) (L : Fin 8 → FVec Ideal S256x256 .f32) (hL : ∀ k : Fin 256, L g (ix2 r k) = R.lk (J + k.val))
    (cy : FVec Ideal S256x128 .f32) (hcy : ∀ c, cy (ix2 r c) = R.C (J + 256)) :
    (∀ c, newC (sums cm (stack L)) g cy (ix2 r c) = R.C J) ∧
      ∀ (z : FVec Ideal S256x256 .f32) (j : Fin 256), logit (sums cm (stack L)) g cy z (ix2 r j) = R.C (J + j.val) - z (ix2 r j) := by
  have hp : ∀ (p : Fin 2) (j : Fin 256), part (sums cm (stack L)) g p (ix2 r j)
      = ∑ k ∈ Ico (J + 128 * p.val + if j.val < 128 then j.val else 0) (J + 128 * p.val + 128), R.lk k := fun p j => by
    rw [part_apply]
    refine sums_row cm hcm _ _ R.lk R.lk_ne_top _ (fun k => ?_) j
    rw [stack_apply, hL, Nat.add_assoc]
  have h0 := fun j : Fin 256 => hp 0 j
  have h1 := fun j : Fin 256 => hp 1 j
  simp only [Fin.val_zero, Fin.val_one, Nat.mul_zero, Nat.mul_one, Nat.add_zero, Nat.add_assoc, Nat.reduceAdd] at h0 h1
  have hm : R.C (J + 256) + ∑ k ∈ Ico (J + 128) (J + 256), R.lk k = R.C (J + 128) := by
    rw [add_comm]
    exact R.C_split _ _ (by omega) hJ
  refine ⟨fun c => ?_, fun z j => ?_⟩
  · rw [newC_apply, h0, h1, hcy, if_neg (by simp), Nat.add_zero, hm, add_comm]
    exact R.C_split _ _ (by omega) (by omega)
  · rw [logit_apply]
    congr 1
    split
    · next h =>
      rw [h0, h1, hcy, if_pos h, if_neg (by simp), Nat.add_zero, hm]
      exact R.C_split _ _ (by omega) (by omega)
    · next h =>
      rw [h1, hcy, if_pos (by show j.val - 128 < 128; omega)]
      rw [show J + (128 + (j.val - 128)) = J + j.val by omega]
      exact R.C_split _ _ (by omega) hJ

/-- A step over keys all before the query. -/
theorem stepF_good (q : Fin 8 → FVec Ideal S256x128 .bf16) (k v : Fin 8 → Vec Ideal S1x256x128 .bf16) (s : St Ideal) (hJ : J + 256 ≤ N) (hi : J + 256 ≤ R.i)
    (hq : ∀ e, q g (ix2 r e) = R.q e) (hk : ∀ (j : Fin 256) e, k g (ix3 0 j e) = R.k (J + j.val) e) (hv : ∀ (j : Fin 256) e, v g (ix3 0 j e) = R.v (J + j.val) e)
    (hs : Good R r (J + 256) (s g)) : Good R r J (stepF q cm k v s g) := by
  have hz : ∀ j : Fin 256, zneg (q g) (k g) (ix2 r j) = R.z (J + j.val) := fun j => by
    rw [zneg_apply, Row.z]
    simp only [hq, hk]
  obtain ⟨h1, h2⟩ := core cm hcm R r g J hJ (fun g => lg (zneg (q g) (k g))) (fun j => by
    rw [lg_apply, hz, Row.lk, if_pos (by omega)]) (s g).1 hs.1
  refine ⟨h1, fun d => ?_⟩
  show newA _ _ _ _ = _
  rw [newA_apply, hs.2 d, ← R.A_split d J 256 hJ]
  congr 1
  refine Finset.sum_congr rfl fun j _ => ?_
  rw [hv]
  congr 1
  show Ideal.exp _ = _
  rw [h2, hz, Row.W, if_pos (by omega)]

/-- The step over the block the query is in. -/
theorem stepD_good (q : Fin 8 → FVec Ideal S256x128 .bf16) (k v : Fin 8 → Vec Ideal S1x256x128 .bf16) (s : St Ideal) (hJ : J + 256 ≤ N) (hi : R.i = J + r.val)
    (hq : ∀ e, q g (ix2 r e) = R.q e) (hk : ∀ (j : Fin 256) e, k g (ix3 0 j e) = R.k (J + j.val) e) (hv : ∀ (j : Fin 256) e, v g (ix3 0 j e) = R.v (J + j.val) e)
    (hs : Good R r (J + 256) (s g)) : Good R r J (stepD q cm k v s g) := by
  have hz : ∀ j : Fin 256, zneg (q g) (k g) (ix2 r j) = R.z (J + j.val) := fun j => by
    rw [zneg_apply, Row.z]
    simp only [hq, hk]
  have hlt : ∀ j : Fin 256, (J + j.val < R.i) = (j.val < r.val) := fun j => propext (by omega)
  obtain ⟨h1, h2⟩ := core cm hcm R r g J hJ (fun g => masked caus (lg (zneg (q g) (k g)))) (fun j => by
    rw [masked_apply, lg_apply, hz, Row.lk]
    simp only [hlt]) (s g).1 hs.1
  refine ⟨h1, fun d => ?_⟩
  show newA _ _ _ _ = _
  rw [newA_apply, hs.2 d, ← R.A_split d J 256 hJ]
  congr 1
  refine Finset.sum_congr rfl fun j _ => ?_
  rw [hv]
  congr 1
  rw [masked_apply, Row.W]
  simp only [hlt]
  refine if_congr Iff.rfl ?_ rfl
  show Ideal.exp _ = _
  rw [h2, hz]

/-- The step over the last sixteen keys. -/
theorem stepT_good (q : Fin 8 → FVec Ideal S256x128 .bf16) (k v : Fin 8 → Vec Ideal S1x16x128 .bf16) (s : St Ideal) (hi : R.i = 2048 + r.val) (hr : r.val < 16)
    (hq : ∀ e, q g (ix2 r e) = R.q e) (hk : ∀ (j : Fin 16) e, k g (ix3 0 j e) = R.k (2048 + j.val) e) (hv : ∀ (j : Fin 16) e, v g (ix3 0 j e) = R.v (2048 + j.val) e)
    (hs : Good R r (2048 + 128) (s g)) : Good R r 2048 (stepT q cm k v s g) := by
  have hlt : ∀ j : Fin 128, (2048 + j.val < R.i) = (j.val < r.val) := fun j => propext (by omega)
  have hz : ∀ j : Fin 128, j.val < r.val → znegT (q g) (k g) (ix2 r j) = R.z (2048 + j.val) := fun j h => by
    rw [znegT_apply, Row.z]
    simp only [hq, pad_apply, dif_pos (show j.val < 16 by omega), hk]
  have hp : ∀ j : Fin 256, partT (sumsT cm (stackT fun g => masked causT (lg (znegT (q g) (k g))))) g (ix2 r j)
      = ∑ k ∈ Ico (2048 + if j.val < 128 then j.val else 0) (2048 + 128), R.lk k := fun j => by
    rw [partT_apply]
    refine sumsT_row cm hcm _ _ R.lk R.lk_ne_top _ (fun k => ?_) j
    rw [stackT_apply, maskedT_apply, lg_apply, Row.lk]
    simp only [hlt]
    by_cases h : k.val < r.val
    · rw [if_pos h, if_pos h, hz k h]
    · rw [if_neg h, if_neg h]
  refine ⟨fun c => ?_, fun d => ?_⟩
  · have e : (stepT q cm k v s g).1 (ix2 r c) = (s g).1 (ix2 r c) + partT (sumsT cm (stackT fun g => masked causT (lg (znegT (q g) (k g))))) g (ix2 r ⟨128 + c.val, by omega⟩) := by
      pointwise [stepT]
    rw [e, hs.1, hp, if_neg (by simp), Nat.add_zero, add_comm]
    exact R.C_split _ _ (by omega) (by decide)
  · have e : ∀ (a : FVec Ideal S256x128 .f32) (w : FVec Ideal S256x128 .f32) (v : Vec Ideal S1x16x128 .bf16),
        addf a (matmul dot_S256x128_S128x128_S256x128_1_0_0_1_n_n none (truncf .bf16 w bitsLt_bf16_f32) (pad v) (constant S256x128 .f32 0x00000000#32)) (ix2 r d)
          = a (ix2 r d) + ∑ j, w (ix2 r j) * pad v (ix2 j d) := fun a w v => by pointwise
    refine (e _ _ _).trans ?_
    rw [hs.2 d, ← R.A_split d 2048 128 (by decide)]
    congr 1
    refine Finset.sum_congr rfl fun j _ => ?_
    rw [maskedT_apply, Row.W, pad_apply]
    simp only [hlt]
    by_cases h : j.val < r.val
    · rw [if_pos h, if_pos h, dif_pos (show j.val < 16 by omega), hv]
      congr 1
      have e2 : ∀ (P : FVec Ideal S256x256 .f32) (cy z : FVec Ideal S256x128 .f32),
          exp (subf (addf (extractStridedSlice S256x128 ![0, 0] P slices_S256x256_o0_0_S256x128) cy) z) (ix2 r j)
            = Ideal.exp (P (ix2 r ⟨j.val, Nat.lt_trans j.isLt (by decide)⟩) + cy (ix2 r j) - z (ix2 r j)) := fun P cy z => by pointwise
      refine (e2 _ _ _).trans ?_
      rw [hp, hs.1, hz j h, if_pos j.isLt]
      congr 2
      show (∑ k ∈ Ico (2048 + j.val) (2048 + 128), R.lk k) + R.C (2048 + 128) = R.C (2048 + j.val)
      exact R.C_split _ _ (by omega) (by decide)
    · rw [if_neg h, if_neg h, zero_mul, zero_mul]
end

end Cert.Proof

end
-- ==== Proof.Found.lean ====
module

public import proofs.«01_k».proof.Proof.Step

@[expose] public section

set_option maxRecDepth 16384
set_option maxHeartbeats 400000

noncomputable section

namespace Cert.Proof

open Cert.KernelIdeal Cert.KernelIdeal.Gen
open Idealize.ShloMosaic Idealize.ShloMosaic.TcCoe

variable {F : FTy → Type} [FloatOps F]

/-! ## The runs' finds as the steps -/

section
variable (c : Dev nD) (i : grid0.Coords)
    (arg3 : Memref sig .tc .vmem S1x256x1024 .bf16) (harg3 : arg3.IsWhole) (arg4 : Memref sig .tc .vmem S1x2064x1024 .bf16) (harg4 : arg4.IsWhole)
    (arg5 : Memref sig .tc .vmem S1x2064x1024 .bf16) (harg5 : arg5.IsWhole) (arg6 : Memref sig .tc .vmem S256x256 .bf16) (harg6 : arg6.IsWhole)
    (arg7 : Memref sig .tc .vmem S1x256x1024 .bf16) (harg7 : arg7.IsWhole) (arg8 : Memref sig .tc .vmem S8x256x128 .f32) (harg8 : arg8.IsWhole)
    (arg9 : Memref sig .tc .vmem S8x256x128 .f32) (harg9 : arg9.IsWhole)
    (x3 : Vec F S1x256x1024 .bf16) (x4 x5 : Vec F S1x2064x1024 .bf16) (x6 : Vec F S256x256 .bf16)

/-- Where a trip's first step reads, head by head; -/
def offA (k : Fin (k0_t1_loop i).trips) : Fin 8 → Fin 3 → ℕ :=
  ![k0_off17 i k, k0_off18 i k, k0_off19 i k, k0_off20 i k, k0_off21 i k, k0_off22 i k, k0_off23 i k, k0_off24 i k]
/-- its second; -/
def offB (k : Fin (k0_t1_loop i).trips) : Fin 8 → Fin 3 → ℕ :=
  ![k0_off25 i k, k0_off26 i k, k0_off27 i k, k0_off28 i k, k0_off29 i k, k0_off30 i k, k0_off31 i k, k0_off32 i k]
/-- the step over the queries' own block; -/
def offD : Fin 8 → Fin 3 → ℕ :=
  ![k0_off1 i, k0_off2 i, k0_off3 i, k0_off4 i, k0_off5 i, k0_off6 i, k0_off7 i, k0_off8 i]
/-- the step before the loop at an odd block. -/
def offO : Fin 8 → Fin 3 → ℕ :=
  ![k0_off9 i, k0_off10 i, k0_off11 i, k0_off12 i, k0_off13 i, k0_off14 i, k0_off15 i, k0_off16 i]

abbrev InbB (o : Fin 8 → Fin 3 → ℕ) : Prop := ∀ g a, o g a + S1x256x128.size a ≤ S1x2064x1024.size a

/-- Eight heads' blocks of keys or values. -/
def ldBs (o : Fin 8 → Fin 3 → ℕ) (h : InbB o) (g : Fin 8) : Vec F S1x256x128 .bf16 := ldB arg4 harg4 x4 (o g) (h g)

theorem inbT (g : Fin 8) : ∀ a, (![0, 2048, 128 * g.val] : Fin 3 → Nat) a + S1x16x128.size a ≤ S1x2064x1024.size a :=
  (by decide : ∀ g : Fin 8, ∀ a, (![0, 2048, 128 * g.val] : Fin 3 → Nat) a + S1x16x128.size a ≤ S1x2064x1024.size a) g
/-- Eight heads' last sixteen keys or values. -/
def ldT (g : Fin 8) : Vec F S1x16x128 .bf16 :=
  View.readAt (Elt F) arg4.view (Rect.unit (s := S1x2064x1024) ![0, 2048, 128 * g.val] S1x16x128.size (inbT g)).toLoadRect (harg4.unread x4)

/-- The carried pairs out of what the loop holds. -/
def unt (t : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32) : St F :=
  ![(t.1, t.2.1), (t.2.2.1, t.2.2.2.1), (t.2.2.2.2.1, t.2.2.2.2.2.1), (t.2.2.2.2.2.2.1, t.2.2.2.2.2.2.2.1), (t.2.2.2.2.2.2.2.2.1, t.2.2.2.2.2.2.2.2.2.1), (t.2.2.2.2.2.2.2.2.2.2.1, t.2.2.2.2.2.2.2.2.2.2.2.1), (t.2.2.2.2.2.2.2.2.2.2.2.2.1, t.2.2.2.2.2.2.2.2.2.2.2.2.2.1), (t.2.2.2.2.2.2.2.2.2.2.2.2.2.2.1, t.2.2.2.2.2.2.2.2.2.2.2.2.2.2.2)]

theorem unt_tup (s : St F) : unt (tup s) = s := by funext g; fin_cases g <;> rfl
theorem tup_unt (t : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32) : tup (unt t) = t := rfl

/-- The eight heads' results side by side, out of what the loop holds. -/
def outP (t : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32) : FVec F S1x256x1024 .bf16 := k0_pay631 (t.2.1) (t.2.2.2.1) (t.2.2.2.2.2.1) (t.2.2.2.2.2.2.2.1) (t.2.2.2.2.2.2.2.2.2.1) (t.2.2.2.2.2.2.2.2.2.2.2.1) (t.2.2.2.2.2.2.2.2.2.2.2.2.2.1) (t.2.2.2.2.2.2.2.2.2.2.2.2.2.2.2)
theorem outP_eq (t : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32) : outP t = outF (unt t) := rfl

/-- One trip is two steps. -/
theorem trip_eq (q : Fin 8 → FVec F S256x128 .bf16) (cm : FVec F S256x256 .bf16) (w : BitVec 32) (k : Fin (k0_t1_loop i).trips) (hA : InbB (offA i k)) (hB : InbB (offB i k)) (s : St F) :
    tripR_k0_t1 Variants.none c none i arg3 harg3 arg4 harg4 arg5 harg5 arg6 harg6 arg7 harg7 arg8 harg8 arg9 harg9 (q 0) (q 1) (q 2) (q 3) (q 4) (q 5) (q 6) (q 7) cm w
        (harg4.unread x4) (harg5.unread x5) k (tup s)
      = tup (stepF q cm (ldBs arg4 harg4 x4 (offB i k) hB) (ldBs arg5 harg5 x5 (offB i k) hB)
          (stepF q cm (ldBs arg4 harg4 x4 (offA i k) hA) (ldBs arg5 harg5 x5 (offA i k) hA) s)) := by
  unfold tripR_k0_t1 trip_k0_t1
  rfl

/-- The pairs the loop starts from, out of the two scratch buffers. -/
def back (L8 L9 : List (View.Piece (Elt F) S8x256x128 .f32)) : St F := fun g => (get arg8 L8 g, get arg9 L9 g)

/-- What the body stores, of the pairs the loop starts from and the two loops' numbers of trips. -/
def fin (w w' : BitVec 32) (n n' : ℕ) (t : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32) : FVec F S1x256x1024 .bf16 :=
  outP (st_k0_t2 Variants.none c none i arg3 harg3 arg4 harg4 arg5 harg5 arg6 harg6 arg7 harg7 arg8 harg8 arg9 harg9 (ldQ arg3 harg3 x3 0) (ldQ arg3 harg3 x3 1) (ldQ arg3 harg3 x3 2) (ldQ arg3 harg3 x3 3) (ldQ arg3 harg3 x3 4) (ldQ arg3 harg3 x3 5) (ldQ arg3 harg3 x3 6) (ldQ arg3 harg3 x3 7) (ldM arg6 harg6 x6) w w'
    (harg4.unread x4) (harg5.unread x5)
    (st_k0_t1 Variants.none c none i arg3 harg3 arg4 harg4 arg5 harg5 arg6 harg6 arg7 harg7 arg8 harg8 arg9 harg9 (ldQ arg3 harg3 x3 0) (ldQ arg3 harg3 x3 1) (ldQ arg3 harg3 x3 2) (ldQ arg3 harg3 x3 3) (ldQ arg3 harg3 x3 4) (ldQ arg3 harg3 x3 5) (ldQ arg3 harg3 x3 6) (ldQ arg3 harg3 x3 7) (ldM arg6 harg6 x6) w (harg4.unread x4) (harg5.unread x5) t n) n')

attribute [local irreducible] st_k0_t1 st_k0_t2

/-- The state after the ninth block's step; -/
def stT : St F := stepT (ldQ arg3 harg3 x3) (ldM arg6 harg6 x6) (ldT arg4 harg4 x4) (ldT arg5 harg5 x5) zeroS
/-- after the step over the queries' own block; -/
def stD (hD : InbB (offD i)) : St F := stepD (ldQ arg3 harg3 x3) (ldM arg6 harg6 x6) (ldBs arg4 harg4 x4 (offD i) hD) (ldBs arg5 harg5 x5 (offD i) hD) zeroS
/-- after one more step. -/
def stO (hO : InbB (offO i)) (s : St F) : St F := stepF (ldQ arg3 harg3 x3) (ldM arg6 harg6 x6) (ldBs arg4 harg4 x4 (offO i) hO) (ldBs arg5 harg5 x5 (offO i) hO) s

theorem runT_eq (hc1 hc2 hc3) : ∃ w w' n n' t, (runT c i arg3 harg3 arg4 harg4 arg5 harg5 arg6 harg6 arg7 harg7 arg8 harg8 arg9 harg9 x3 x4 x5 x6 hc1 hc2 hc3).1 = [⟨Rect.unit (s := S1x256x1024) ![0, 0, 0] S1x256x1024.size inb_S1x256x1024_S1x256x1024_0_0_0, fin c i arg3 harg3 arg4 harg4 arg5 harg5 arg6 harg6 arg7 harg7 arg8 harg8 arg9 harg9 x3 x4 x5 x6 w w' n n' t⟩]
    ∧ n = (k0_t1_loop i).trips ∧ n' = (k0_t2_loop i).trips ∧ t = tup (back arg8 arg9 (put (fun g => (stT arg3 harg3 arg4 harg4 arg5 harg5 arg6 harg6 x3 x4 x5 x6 g).1) [])
      (put (fun g => (stT arg3 harg3 arg4 harg4 arg5 harg5 arg6 harg6 x3 x4 x5 x6 g).2) [])) :=
  ⟨_, _, _, _, _, rfl, rfl, rfl, rfl⟩

theorem runE_eq (hD : InbB (offD i)) (hc1 hc2 hc3) : ∃ w w' n n' t, (runE c i arg3 harg3 arg4 harg4 arg5 harg5 arg6 harg6 arg7 harg7 arg8 harg8 arg9 harg9 x3 x4 x5 x6 hc1 hc2 hc3).1 = [⟨Rect.unit (s := S1x256x1024) ![0, 0, 0] S1x256x1024.size inb_S1x256x1024_S1x256x1024_0_0_0, fin c i arg3 harg3 arg4 harg4 arg5 harg5 arg6 harg6 arg7 harg7 arg8 harg8 arg9 harg9 x3 x4 x5 x6 w w' n n' t⟩]
    ∧ n = (k0_t1_loop i).trips ∧ n' = (k0_t2_loop i).trips ∧ t = tup (back arg8 arg9 (put (fun g => (stD i arg3 harg3 arg4 harg4 arg5 harg5 arg6 harg6 x3 x4 x5 x6 hD g).1) [])
      (put (fun g => (stD i arg3 harg3 arg4 harg4 arg5 harg5 arg6 harg6 x3 x4 x5 x6 hD g).2) [])) :=
  ⟨_, _, _, _, _, rfl, rfl, rfl, rfl⟩

/-- What the odd run's step before the loop leaves, head by head. -/
def oddS (hc2 : k0_cond2 i = 1#1) (hc3 : k0_cond3 i = 1#1) : St F :=
  ![(runO.sl.r_97 c i arg3 harg3 arg4 harg4 arg6 harg6 arg8 x3 x4 x6 hc2 hc3,
      runO.sl.r_98 c i arg3 harg3 arg4 harg4 arg5 harg5 arg6 harg6 arg8 arg9 x3 x4 x5 x6 hc2 hc3),
    (runO.sl.r_100 c i arg3 harg3 arg4 harg4 arg6 harg6 arg8 x3 x4 x6 hc2 hc3,
      runO.sl.r_102 c i arg3 harg3 arg4 harg4 arg5 harg5 arg6 harg6 arg8 arg9 x3 x4 x5 x6 hc2 hc3),
    (runO.sl.r_103 c i arg3 harg3 arg4 harg4 arg6 harg6 arg8 x3 x4 x6 hc2 hc3,
      runO.sl.r_104 c i arg3 harg3 arg4 harg4 arg5 harg5 arg6 harg6 arg8 arg9 x3 x4 x5 x6 hc2 hc3),
    (runO.sl.r_105 c i arg3 harg3 arg4 harg4 arg6 harg6 arg8 x3 x4 x6 hc2 hc3,
      runO.sl.r_106 c i arg3 harg3 arg4 harg4 arg5 harg5 arg6 harg6 arg8 arg9 x3 x4 x5 x6 hc2 hc3),
    (runO.sl.r_110 c i arg3 harg3 arg4 harg4 arg6 harg6 arg8 x3 x4 x6 hc2 hc3,
      runO.sl.r_111 c i arg3 harg3 arg4 harg4 arg5 harg5 arg6 harg6 arg8 arg9 x3 x4 x5 x6 hc2 hc3),
    (runO.sl.r_112 c i arg3 harg3 arg4 harg4 arg6 harg6 arg8 x3 x4 x6 hc2 hc3,
      runO.sl.r_113 c i arg3 harg3 arg4 harg4 arg5 harg5 arg6 harg6 arg8 arg9 x3 x4 x5 x6 hc2 hc3),
    (runO.sl.r_114 c i arg3 harg3 arg4 harg4 arg6 harg6 arg8 x3 x4 x6 hc2 hc3,
      runO.sl.r_115 c i arg3 harg3 arg4 harg4 arg5 harg5 arg6 harg6 arg8 arg9 x3 x4 x5 x6 hc2 hc3),
    (runO.sl.r_120 c i arg3 harg3 arg4 harg4 arg6 harg6 arg8 x3 x4 x6 hc2 hc3,
      runO.sl.r_121 c i arg3 harg3 arg4 harg4 arg5 harg5 arg6 harg6 arg8 arg9 x3 x4 x5 x6 hc2 hc3)]

set_option maxHeartbeats 400000 in
theorem oddS_eq (hO : InbB (offO i)) (hc2 : k0_cond2 i = 1#1) (hc3 : k0_cond3 i = 1#1) : oddS c i arg3 harg3 arg4 harg4 arg5 harg5 arg6 harg6 arg8 arg9 x3 x4 x5 x6 hc2 hc3
    = stO i arg3 harg3 arg4 harg4 arg5 harg5 arg6 harg6 x3 x4 x5 x6 hO (back arg8 arg9 (runO.sl.H8_8 c i arg3 harg3 arg4 harg4 arg6 harg6 x3 x4 x6 hc2) (runO.sl.H9_8 c i arg3 harg3 arg4 harg4 arg5 harg5 arg6 harg6 x3 x4 x5 x6 hc2)) := by
  funext g
  fin_cases g
  all_goals exact Prod.ext rfl rfl

theorem oddL8 (hD : InbB (offD i)) (hc2 : k0_cond2 i = 1#1) : runO.sl.H8_8 c i arg3 harg3 arg4 harg4 arg6 harg6 x3 x4 x6 hc2 = put (fun g => (stD i arg3 harg3 arg4 harg4 arg5 harg5 arg6 harg6 x3 x4 x5 x6 hD g).1) [] := rfl
theorem oddL9 (hD : InbB (offD i)) (hc2 : k0_cond2 i = 1#1) : runO.sl.H9_8 c i arg3 harg3 arg4 harg4 arg5 harg5 arg6 harg6 x3 x4 x5 x6 hc2 = put (fun g => (stD i arg3 harg3 arg4 harg4 arg5 harg5 arg6 harg6 x3 x4 x5 x6 hD g).2) [] := rfl

theorem runO_eq (hD : InbB (offD i)) (hO : InbB (offO i)) (hc1 hc2 hc3) : ∃ w w' n n' t, (runO c i arg3 harg3 arg4 harg4 arg5 harg5 arg6 harg6 arg7 harg7 arg8 harg8 arg9 harg9 x3 x4 x5 x6 hc1 hc2 hc3).1 = [⟨Rect.unit (s := S1x256x1024) ![0, 0, 0] S1x256x1024.size inb_S1x256x1024_S1x256x1024_0_0_0, fin c i arg3 harg3 arg4 harg4 arg5 harg5 arg6 harg6 arg7 harg7 arg8 harg8 arg9 harg9 x3 x4 x5 x6 w w' n n' t⟩]
    ∧ n = (k0_t1_loop i).trips ∧ n' = (k0_t2_loop i).trips ∧ ∃ L8 L9, L8 = put (fun g => (stD i arg3 harg3 arg4 harg4 arg5 harg5 arg6 harg6 x3 x4 x5 x6 hD g).1) [] ∧ L9 = put (fun g => (stD i arg3 harg3 arg4 harg4 arg5 harg5 arg6 harg6 x3 x4 x5 x6 hD g).2) []
      ∧ ∃ s, s = stO i arg3 harg3 arg4 harg4 arg5 harg5 arg6 harg6 x3 x4 x5 x6 hO (back arg8 arg9 L8 L9) ∧ t = tup (back arg8 arg9 (put (fun g => (s g).1) L8) (put (fun g => (s g).2) L9)) :=
  ⟨_, _, _, _, _, rfl, rfl, rfl, _, _, oddL8 c i arg3 harg3 arg4 harg4 arg5 harg5 arg6 harg6 x3 x4 x5 x6 hD hc2, oddL9 c i arg3 harg3 arg4 harg4 arg5 harg5 arg6 harg6 x3 x4 x5 x6 hD hc2,
    _, oddS_eq c i arg3 harg3 arg4 harg4 arg5 harg5 arg6 harg6 arg8 arg9 x3 x4 x5 x6 hO hc2 hc3, rfl⟩
end

end Cert.Proof

end
-- ==== Proof.Trips.lean ====
module

public import proofs.«01_k».proof.Proof.Found

@[expose] public section

set_option maxRecDepth 16384

namespace Cert.Proof

open Cert.KernelIdeal Cert.KernelIdeal.Gen
open Idealize.ShloMosaic

/-! ## How many trips the loops make, and where the steps read -/

theorem trips1 : ∀ t : Fin grid0.N, (k0_t1_loop (grid0.coords t)).trips = t.val % 9 / 2 := by decide +kernel
theorem trips2 : ∀ t : Fin grid0.N, (k0_t2_loop (grid0.coords t)).trips = 0 := by decide +kernel

/-- Rows `256 J` on, one head's columns. -/
def off (J : ℕ) (g : Fin 8) : Fin 3 → ℕ := ![0, 256 * J, 128 * g.val]

theorem offA_eq : ∀ (t : Fin grid0.N) (k : Fin (k0_t1_loop (grid0.coords t)).trips),
    offA (grid0.coords t) k = off (2 * (t.val % 9 / 2 - 1 - k.val) + 1) := by decide +kernel
theorem offB_eq : ∀ (t : Fin grid0.N) (k : Fin (k0_t1_loop (grid0.coords t)).trips),
    offB (grid0.coords t) k = off (2 * (t.val % 9 / 2 - 1 - k.val)) := by decide +kernel
theorem offD_eq : ∀ t : Fin grid0.N, t.val % 9 ≠ 8 → offD (grid0.coords t) = off (t.val % 9) := by decide +kernel
theorem offO_eq : ∀ t : Fin grid0.N, t.val % 9 % 2 = 1 → offO (grid0.coords t) = off (t.val % 9 - 1) := by decide +kernel

end Cert.Proof
-- ==== Proof.Sweep.lean ====
module

public import proofs.«01_k».proof.Proof.StepRead
public import proofs.«01_k».proof.Proof.Found
public import proofs.«01_k».proof.Proof.Trips
public import Idealize.ShloMosaic.Lib.WholeRead
public import Idealize.ShloMosaic.Lib.Pipeline.ReadBack
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe

/-! ## What the body leaves, row by row -/

/-- One head's block as it is stored. -/
def slot (P : Fin 8 → FVec Ideal S256x128 .f32) (g : Fin 8) : View.Piece (Elt Ideal) S8x256x128 .f32 :=
  ⟨Rect.unit (s := S8x256x128) ![g.val, 0, 0] S1x256x128.size (inbS g), shapeCast S1x256x128 (P g) shapeCasts_S256x128_S1x256x128⟩

/-- A head's block is what was last stored of that head. -/
theorem read_slots (arg8 : Memref sig .tc .vmem S8x256x128 .f32) (P : Fin 8 → FVec Ideal S256x128 .f32) (L : List (View.Piece (Elt Ideal) S8x256x128 .f32)) (g : Fin 8)
    (l : List (Fin 8)) (hg : g ∈ l) : arg8.view.readCov (l.map (slot P) ++ L) (Rect.unit (s := S8x256x128) ![g.val, 0, 0] S1x256x128.size (inbS g)).toLoadRect
      = shapeCast S1x256x128 (P g) shapeCasts_S256x128_S1x256x128 := by
  induction l with
  | nil => exact absurd hg (List.not_mem_nil)
  | cons g' l ih =>
    by_cases e : g' = g
    · subst e
      exact View.readCov_cons_toLoadRect _ _ _ _
    · refine (View.readCov_skip _ _ _ _ _ ?_).trans (ih ((List.mem_cons.mp hg).resolve_left fun e' => e e'.symm))
      exact (by decide : ∀ g g' : Fin 8, g' ≠ g → LoadRect.disj (Rect.unit (s := S8x256x128) ![g'.val, 0, 0] S1x256x128.size (inbS g'))
        (Rect.unit (s := S8x256x128) ![g.val, 0, 0] S1x256x128.size (inbS g)).toLoadRect = true) g g' e

theorem get_put (arg8 : Memref sig .tc .vmem S8x256x128 .f32) (P : Fin 8 → FVec Ideal S256x128 .f32) (L : List (View.Piece (Elt Ideal) S8x256x128 .f32)) (g : Fin 8) :
    get arg8 (put P L) g = P g := by
  have h := read_slots arg8 P L g [7, 6, 5, 4, 3, 2, 1, 0] ((by decide : ∀ g : Fin 8, g ∈ [7, 6, 5, 4, 3, 2, 1, 0]) g)
  exact (congrArg (fun y => shapeCast S256x128 y shapeCasts_S1x256x128_S256x128) h).trans (shapeCast_shapeCast _ _ _)

section
variable (arg3 : Memref sig .tc .vmem S1x256x1024 .bf16) (harg3 : arg3.IsWhole) (arg4 : Memref sig .tc .vmem S1x2064x1024 .bf16) (harg4 : arg4.IsWhole)
  (arg6 : Memref sig .tc .vmem S256x256 .bf16) (harg6 : arg6.IsWhole)
  (x3 : Vec Ideal S1x256x1024 .bf16) (x4 : Vec Ideal S1x2064x1024 .bf16) (x6 : Vec Ideal S256x256 .bf16)

theorem ldQ_apply (g : Fin 8) (r : Fin 256) (e : Fin 128) : ldQ arg3 harg3 x3 g (ix2 r e) = x3 (ix3 0 r ⟨128 * g.val + e.val, by omega⟩) := by
  have h : ∀ y : Vec Ideal S1x256x128 .bf16, shapeCast S256x128 y shapeCasts_S1x256x128_S256x128 (ix2 r e) = y (ix3 0 r e) := fun y => by pointwise
  refine (h _).trans ((harg3.readAt_unread _ _ _).trans (congrArg x3 ?_))
  funext a
  refine Fin.ext ?_
  match a with
  | ⟨0, _⟩ => rfl
  | ⟨1, _⟩ => show 0 + 1 * r.val = r.val; omega
  | ⟨2, _⟩ => show 128 * g.val + 1 * e.val = 128 * g.val + e.val; omega

theorem ldM_eq : ldM arg6 harg6 x6 = x6 := by
  refine (shapeCast_self _ _).trans ?_
  funext j
  refine (harg6.readAt_unread _ _ _).trans (congrArg x6 ?_)
  funext a
  refine Fin.ext ?_
  match a with
  | ⟨0, _⟩ => show 0 + 1 * (j 0).val = (j 0).val; omega
  | ⟨1, _⟩ => show 0 + 1 * (j 1).val = (j 1).val; omega

theorem ldBs_apply (o : Fin 8 → Fin 3 → ℕ) (h : InbB o) (J : ℕ) (ho : o = off J) (g : Fin 8) (j : Fin 256) (e : Fin 128) (hj : 256 * J + j.val < 2064) :
    ldBs arg4 harg4 x4 o h g (ix3 0 j e) = x4 (ix3 0 ⟨256 * J + j.val, hj⟩ ⟨128 * g.val + e.val, by omega⟩) := by
  subst ho
  refine (harg4.readAt_unread _ _ _).trans (congrArg x4 ?_)
  funext a
  refine Fin.ext ?_
  match a with
  | ⟨0, _⟩ => rfl
  | ⟨1, _⟩ => show 256 * J + 1 * j.val = 256 * J + j.val; omega
  | ⟨2, _⟩ => show 128 * g.val + 1 * e.val = 128 * g.val + e.val; omega

theorem ldT_apply (g : Fin 8) (j : Fin 16) (e : Fin 128) :
    ldT arg4 harg4 x4 g (ix3 0 j e) = x4 (ix3 0 ⟨2048 + j.val, by omega⟩ ⟨128 * g.val + e.val, by omega⟩) := by
  refine (harg4.readAt_unread _ _ _).trans (congrArg x4 ?_)
  funext a
  refine Fin.ext ?_
  match a with
  | ⟨0, _⟩ => rfl
  | ⟨1, _⟩ => show 2048 + 1 * j.val = 2048 + j.val; omega
  | ⟨2, _⟩ => show 128 * g.val + 1 * e.val = 128 * g.val + e.val; omega

theorem inbOff (J : ℕ) (hJ : J < 8) : InbB (off J) := fun g a => by
  match a with
  | ⟨0, _⟩ => show 0 + 1 ≤ 1; omega
  | ⟨1, _⟩ => show 256 * J + 256 ≤ 2064; omega
  | ⟨2, _⟩ => show 128 * g.val + 128 ≤ 1024; omega
end

/-- The eight heads' rows agree with what is staged: the queries' row, the keys and the values. -/
structure Fits (R : Fin 8 → Row) (qi : ℕ) (r : Fin 256) (x3 : Vec Ideal S1x256x1024 .bf16) (x4 x5 : Vec Ideal S1x2064x1024 .bf16) : Prop where
  i : ∀ g, (R g).i = 256 * qi + r.val
  q : ∀ (g : Fin 8) (e : Fin 128), x3 (ix3 0 r ⟨128 * g.val + e.val, by omega⟩) = (R g).q e
  k : ∀ (g : Fin 8) (j : Fin 2064) (e : Fin 128), x4 (ix3 0 j ⟨128 * g.val + e.val, by omega⟩) = (R g).k j.val e
  v : ∀ (g : Fin 8) (j : Fin 2064) (e : Fin 128), x5 (ix3 0 j ⟨128 * g.val + e.val, by omega⟩) = (R g).v j.val e

section
variable (c : Dev nD) (t : Fin grid0.N)
    (arg3 : Memref sig .tc .vmem S1x256x1024 .bf16) (harg3 : arg3.IsWhole) (arg4 : Memref sig .tc .vmem S1x2064x1024 .bf16) (harg4 : arg4.IsWhole)
    (arg5 : Memref sig .tc .vmem S1x2064x1024 .bf16) (harg5 : arg5.IsWhole) (arg6 : Memref sig .tc .vmem S256x256 .bf16) (harg6 : arg6.IsWhole)
    (arg7 : Memref sig .tc .vmem S1x256x1024 .bf16) (harg7 : arg7.IsWhole) (arg8 : Memref sig .tc .vmem S8x256x128 .f32) (harg8 : arg8.IsWhole)
    (arg9 : Memref sig .tc .vmem S8x256x128 .f32) (harg9 : arg9.IsWhole)
    (x3 : Vec Ideal S1x256x1024 .bf16) (x4 x5 : Vec Ideal S1x2064x1024 .bf16) (x6 : Vec Ideal S256x256 .bf16)
    (hcm : IsMask x6) (R : Fin 8 → Row) (r : Fin 256) (fits : Fits R (t.val % 9) r x3 x4 x5)
include hcm fits

/-- A step over a block before the queries'. -/
theorem step_good (o : Fin 8 → Fin 3 → ℕ) (ho : InbB o) (J : ℕ) (e : o = off J) (hJ : J < t.val % 9) (s : St Ideal) (hs : ∀ g, Good (R g) r (256 * J + 256) (s g)) (g : Fin 8) :
    Good (R g) r (256 * J) (stepF (ldQ arg3 harg3 x3) (ldM arg6 harg6 x6) (ldBs arg4 harg4 x4 o ho) (ldBs arg5 harg5 x5 o ho) s g) := by
  rw [ldM_eq]
  refine stepF_good x6 hcm (R g) r g (256 * J) _ _ _ s (by show _ ≤ 2304; omega) (by rw [fits.i]; omega) (fun e => ?_) (fun j e' => ?_) (fun j e' => ?_) (hs g)
  · rw [ldQ_apply, fits.q]
  · rw [ldBs_apply arg4 harg4 x4 o ho J e g j e' (by omega), fits.k]
  · rw [ldBs_apply arg5 harg5 x5 o ho J e g j e' (by omega), fits.v]

theorem stD_good (h8 : t.val % 9 ≠ 8) (hD : InbB (offD (grid0.coords t))) (g : Fin 8) :
    Good (R g) r (256 * (t.val % 9)) (stD (grid0.coords t) arg3 harg3 arg4 harg4 arg5 harg5 arg6 harg6 x3 x4 x5 x6 hD g) := by
  unfold stD
  rw [ldM_eq]
  refine stepD_good x6 hcm (R g) r g (256 * (t.val % 9)) _ _ _ zeroS (by show _ ≤ 2304; omega) (fits.i g) (fun e => ?_) (fun j e' => ?_) (fun j e' => ?_)
    (zeroS_good (R g) r g _ (by rw [fits.i]; omega))
  · rw [ldQ_apply, fits.q]
  · rw [ldBs_apply arg4 harg4 x4 _ hD _ (offD_eq t h8) g j e' (by omega), fits.k]
  · rw [ldBs_apply arg5 harg5 x5 _ hD _ (offD_eq t h8) g j e' (by omega), fits.v]

theorem stT_good (h8 : t.val % 9 = 8) (hr : r.val < 16) (g : Fin 8) :
    Good (R g) r 2048 (stT arg3 harg3 arg4 harg4 arg5 harg5 arg6 harg6 x3 x4 x5 x6 g) := by
  unfold stT
  rw [ldM_eq]
  refine stepT_good x6 hcm (R g) r g _ _ _ zeroS (by rw [fits.i, h8]) hr (fun e => ?_) (fun j e' => ?_) (fun j e' => ?_)
    (zeroS_good (R g) r g _ (by rw [fits.i]; omega))
  · rw [ldQ_apply, fits.q]
  · rw [ldT_apply arg4 harg4 x4 g j e', fits.k]
  · rw [ldT_apply arg5 harg5 x5 g j e', fits.v]

/-- What the body stores, of pairs good down to the loop's first block: every row of the result. -/
theorem fin_good (w w' : BitVec 32) (s : St Ideal) (hs : ∀ g, Good (R g) r (512 * (t.val % 9 / 2)) (s g)) (g : Fin 8) (d : Fin 128) :
    fin c (grid0.coords t) arg3 harg3 arg4 harg4 arg5 harg5 arg6 harg6 arg7 harg7 arg8 harg8 arg9 harg9 x3 x4 x5 x6 w w' (k0_t1_loop (grid0.coords t)).trips
      (k0_t2_loop (grid0.coords t)).trips (tup s) (ix3 0 r ⟨128 * g.val + d.val, by omega⟩) = (R g).A d 0 := by
  have loop : ∀ n : ℕ, n ≤ (k0_t1_loop (grid0.coords t)).trips → ∃ s' : St Ideal,
      st_k0_t1 Variants.none c none (grid0.coords t) arg3 harg3 arg4 harg4 arg5 harg5 arg6 harg6 arg7 harg7 arg8 harg8 arg9 harg9 (ldQ arg3 harg3 x3 0) (ldQ arg3 harg3 x3 1)
        (ldQ arg3 harg3 x3 2) (ldQ arg3 harg3 x3 3) (ldQ arg3 harg3 x3 4) (ldQ arg3 harg3 x3 5) (ldQ arg3 harg3 x3 6) (ldQ arg3 harg3 x3 7) (ldM arg6 harg6 x6) w
        (harg4.unread x4) (harg5.unread x5) (tup s) n = tup s' ∧ ∀ g, Good (R g) r (512 * (t.val % 9 / 2 - n)) (s' g) := by
    intro n
    induction n with
    | zero => exact fun _ => ⟨s, st_k0_t1_zero .., hs⟩
    | succ n ih =>
      intro hn
      obtain ⟨s', h1, h2⟩ := ih (by omega)
      have ht := trips1 t
      have eA := offA_eq t ⟨n, hn⟩
      have eB := offB_eq t ⟨n, hn⟩
      have hA : InbB (offA (grid0.coords t) ⟨n, hn⟩) := eA ▸ inbOff _ (by show 2 * (t.val % 9 / 2 - 1 - n) + 1 < 8; omega)
      have hB : InbB (offB (grid0.coords t) ⟨n, hn⟩) := eB ▸ inbOff _ (by show 2 * (t.val % 9 / 2 - 1 - n) < 8; omega)
      refine ⟨_, (st_k0_t1_succ Variants.none c none (grid0.coords t) arg3 harg3 arg4 harg4 arg5 harg5 arg6 harg6 arg7 harg7 arg8 harg8 arg9 harg9 _ _ _ _ _ _ _ _ _ _ _ _ _ ⟨n, hn⟩).trans
        ((congrArg _ h1).trans (trip_eq c (grid0.coords t) arg3 harg3 arg4 harg4 arg5 harg5 arg6 harg6 arg7 harg7 arg8 harg8 arg9 harg9 x4 x5 (ldQ arg3 harg3 x3) _ w ⟨n, hn⟩ hA hB s')), fun g => ?_⟩
      have hb := step_good t arg3 harg3 arg4 harg4 arg5 harg5 arg6 harg6 x3 x4 x5 x6 hcm R r fits _ hB (2 * (t.val % 9 / 2 - 1 - n)) eB (by omega) _ (fun g' => by
        have ha := step_good t arg3 harg3 arg4 harg4 arg5 harg5 arg6 harg6 x3 x4 x5 x6 hcm R r fits _ hA (2 * (t.val % 9 / 2 - 1 - n) + 1) eA (by omega) s' (fun g'' => by
          have := h2 g''
          rwa [show 512 * (t.val % 9 / 2 - n) = 256 * (2 * (t.val % 9 / 2 - 1 - n) + 1) + 256 by omega] at this) g'
        rwa [show 256 * (2 * (t.val % 9 / 2 - 1 - n) + 1) = 256 * (2 * (t.val % 9 / 2 - 1 - n)) + 256 by omega] at ha) g
      rwa [show 512 * (t.val % 9 / 2 - (n + 1)) = 256 * (2 * (t.val % 9 / 2 - 1 - n)) by omega]
  obtain ⟨s', h1, h2⟩ := loop _ le_rfl
  unfold fin
  rw [trips2 t, st_k0_t2_zero, h1, outP_eq, unt_tup, outF_apply, (h2 g).2 d, trips1 t, Nat.sub_self]

/-- What the run at a point leaves: every row inside the array. -/
theorem found_row (hr : t.val % 9 = 8 → r.val < 16) (g : Fin 8) (d : Fin 128) :
    found c t x3 x4 x5 x6 (ix3 0 r ⟨128 * g.val + d.val, by omega⟩) = (R g).A d 0 := by
  have whole : ∀ w : Vec Ideal S1x256x1024 .bf16, View.canon [(⟨Rect.unit (s := S1x256x1024) ![0, 0, 0] S1x256x1024.size inb_S1x256x1024_S1x256x1024_0_0_0, w⟩ : View.Piece (Elt Ideal) S1x256x1024 .bf16)] = w :=
    fun w => View.canon_cons_unit_lit _ w [] (by decide)
  unfold found ran
  split
  · next h8 =>
    obtain ⟨w, w', n, n', s, h1, h2, h3, h4⟩ := runT_eq c (grid0.coords t) (ms0 t) (hs0 t) (ms1 t) (hs1 t) (ms2 t) (hs2 t) (ms3 t) (hs3 t) (ms4 t) (hs4 t) sc0 hsc0 sc1 hsc1 x3 x4 x5 x6
      ((isTail_iff t).mpr h8) (fun e => (cond2_iff t).mp e h8) (fun e => by have := (cond3_iff t).mp e; omega)
    unfold ranT
    rw [h1, whole, h2, h3, h4]
    refine fin_good c t (ms0 t) (hs0 t) (ms1 t) (hs1 t) (ms2 t) (hs2 t) (ms3 t) (hs3 t) (ms4 t) (hs4 t) sc0 hsc0 sc1 hsc1 x3 x4 x5 x6 hcm R r fits w w' _ (fun g => ?_) g d
    have := stT_good t (ms0 t) (hs0 t) (ms1 t) (hs1 t) (ms2 t) (hs2 t) (ms3 t) (hs3 t) x3 x4 x5 x6 hcm R r fits h8 (hr h8) g
    rw [h8]
    unfold back
    rwa [get_put, get_put]
  · next h8 =>
    have eD := offD_eq t h8
    have hD : InbB (offD (grid0.coords t)) := eD ▸ inbOff _ (by omega)
    have hd := stD_good t (ms0 t) (hs0 t) (ms1 t) (hs1 t) (ms2 t) (hs2 t) (ms3 t) (hs3 t) x3 x4 x5 x6 hcm R r fits h8 hD
    split
    · next ho =>
      have eO := offO_eq t ho
      have hO : InbB (offO (grid0.coords t)) := eO ▸ inbOff _ (by omega)
      obtain ⟨w, w', n, n', s, h1, h2, h3, L8, L9, h4, h5, s', h6, h7⟩ := runO_eq c (grid0.coords t) (ms0 t) (hs0 t) (ms1 t) (hs1 t) (ms2 t) (hs2 t) (ms3 t) (hs3 t) (ms4 t) (hs4 t) sc0 hsc0 sc1 hsc1 x3 x4 x5 x6
        hD hO (fun e => by have := (isTail_iff t).mp e; omega) ((cond2_iff t).mpr (by omega)) ((cond3_iff t).mpr ho)
      unfold ranO
      rw [h1, whole, h2, h3, h7]
      refine fin_good c t (ms0 t) (hs0 t) (ms1 t) (hs1 t) (ms2 t) (hs2 t) (ms3 t) (hs3 t) (ms4 t) (hs4 t) sc0 hsc0 sc1 hsc1 x3 x4 x5 x6 hcm R r fits w w' _ (fun g => ?_) g d
      unfold back
      rw [get_put, get_put, h6]
      have := step_good t (ms0 t) (hs0 t) (ms1 t) (hs1 t) (ms2 t) (hs2 t) (ms3 t) (hs3 t) x3 x4 x5 x6 hcm R r fits _ hO (t.val % 9 - 1) eO (by omega) (back sc0 sc1 L8 L9) (fun g => by
        have := hd g
        unfold back
        rw [h4, h5, get_put, get_put]
        rwa [show 256 * (t.val % 9) = 256 * (t.val % 9 - 1) + 256 by omega] at this) g
      rwa [show 256 * (t.val % 9 - 1) = 512 * (t.val % 9 / 2) by omega] at this
    · next ho =>
      obtain ⟨w, w', n, n', s, h1, h2, h3, h4⟩ := runE_eq c (grid0.coords t) (ms0 t) (hs0 t) (ms1 t) (hs1 t) (ms2 t) (hs2 t) (ms3 t) (hs3 t) (ms4 t) (hs4 t) sc0 hsc0 sc1 hsc1 x3 x4 x5 x6
        hD (fun e => h8 ((isTail_iff t).mp e)) ((cond2_iff t).mpr h8) (fun e => ho ((cond3_iff t).mp e))
      unfold ranE
      rw [h1, whole, h2, h3, h4]
      refine fin_good c t (ms0 t) (hs0 t) (ms1 t) (hs1 t) (ms2 t) (hs2 t) (ms3 t) (hs3 t) (ms4 t) (hs4 t) sc0 hsc0 sc1 hsc1 x3 x4 x5 x6 hcm R r fits w w' _ (fun g => ?_) g d
      have := hd g
      unfold back
      rw [get_put, get_put]
      rwa [show 256 * (t.val % 9) = 512 * (t.val % 9 / 2) by omega] at this
end

end Cert.Proof

end
-- ==== Proof.Mask.lean ====
/-
  What the host hands the kernel besides the operands: the 256 by 256 matrix of zeros and ones.
-/
module

public import proofs.«01_k».proof.Defs
public import proofs.«01_k».proof.Proof.StepRead
public import proofs.«01_k».proof.Proof.Gen.KernelIdeal.Frame
public import Idealize.ShloMosaic.Lib.Tactic
public import Idealize.ShloMosaic.Lib.StableHlo.ReadAt
public import Idealize.ShloMosaic.Lib.Tactic.WordOmega
public import Idealize.ShloMosaic.Lib.Routing.Words

@[expose] public section

set_option maxRecDepth 16384

noncomputable section

namespace Cert.Proof

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem word_one : FloatOps.uitofp (F := Ideal) FTy.bf16 1#1 = 1 := by
  show (((1#1).toNat : ℝ) : EReal) = 1
  simp
theorem word_zero : FloatOps.uitofp (F := Ideal) FTy.bf16 0#1 = 0 := by
  show (((0#1).toNat : ℝ) : EReal) = 0
  simp

/-- The remainder by 128, with its correction for the sign of the divisor, of a number that is already below 128: the number. -/
theorem rem_fix (r : Fin 128) : Scalar.select (IntOp.andi (IntOp.cmpi CmpIPredicate.ne (IntOp.cmpi CmpIPredicate.slt (BitVec.ofNat 32 r.val) 0#32)
      (IntOp.cmpi CmpIPredicate.slt (BitVec.ofNat 32 128) 0#32)) (IntOp.cmpi CmpIPredicate.ne (BitVec.ofNat 32 r.val) 0#32))
    (IntOp.addi (BitVec.ofNat 32 r.val) (BitVec.ofNat 32 128)) (BitVec.ofNat 32 r.val) = BitVec.ofNat 32 r.val := by
  revert r
  decide +kernel

/-- Entry `(k, j)` of the matrix is one when `j` is at least 128 or at most the remainder of `k` by 128, else zero. -/
theorem mask_host : IsMask (V m c main_v11) := fun k j => by
  unfold V
  after_reads_at
  have hk := k.isLt; have hj := j.isLt
  have hd : Scalar.select (IntOp.cmpi CmpIPredicate.eq (id (constantI S_ 32 128#32) ix0) 0#32) 1#32 (id (constantI S_ 32 128#32) ix0) = BitVec.ofNat 32 128 := rfl
  rw [hd, Routing.remsi_word _ (by omega) (by decide) (by decide), rem_fix ⟨k.val % 128, Nat.mod_lt _ (by decide)⟩,
    WordCmp.cmpi_sge_ofNat (by show k.val % 128 < 2147483648; omega) (by show j.val < 2147483648; omega), WordCmp.cmpi_slt_ofNat (by show j.val < 2147483648; omega) (by decide)]
  by_cases h : j.val < 128
  · by_cases h' : j.val ≤ k.val % 128
    · simp [h, h', Scalar.select]
      exact word_one
    · simp [h, h', Scalar.select]
      exact word_zero
  · simp [h, Scalar.select]
    exact word_one

end Cert.Proof

end
-- ==== Proof.RowRef.lean ====
module

public import proofs.«01_k».proof.Proof.Row

@[expose] public section

noncomputable section

namespace Cert.Proof

open Idealize.ShloMosaic
open Finset (Ico)

/-! ## The reference's weights are the row's -/

/-- The log of the logistic function as the reference writes it: minus the softplus of minus `z`. -/
def lsg (z : EReal) : EReal := -(max (-z) 0 + Ideal.log (1 + Ideal.exp (-max (-z) (- -z))))

theorem exp_neg_abs (r : ℝ) : Ideal.exp (-max (r : EReal) (-r)) = ((Real.exp (-|r|) : ℝ) : EReal) := by
  have h : -max (r : EReal) (-r) = ((-|r| : ℝ) : EReal) := by
    rw [abs_eq_max_neg, EReal.coe_neg]
    exact congrArg (- ·) (EReal.coe_strictMono.monotone.map_max (a := r) (b := -r)).symm
  rw [h]
  rfl

/-- The log of one plus the exponential of minus the size, over the reals. -/
def lp (r : ℝ) : ℝ := Real.log (1 + Real.exp (-|r|))

theorem log_one_add (r : ℝ) : Ideal.log (1 + ((Real.exp (-|r|) : ℝ) : EReal)) = (lp r : EReal) := by
  have h : (0 : ℝ) < 1 + Real.exp (-|r|) := by positivity
  rw [show (1 : EReal) + ((Real.exp (-|r|) : ℝ) : EReal) = ((1 + Real.exp (-|r|) : ℝ) : EReal) by push_cast; rfl]
  show (if 1 + Real.exp (-|r|) ≤ 0 then (⊥ : EReal) else (Real.log (1 + Real.exp (-|r|)) : EReal)) = _
  rw [if_neg (not_le.2 h)]
  rfl

theorem log_one : Ideal.log 1 = 0 := by
  show (if (1 : ℝ) ≤ 0 then (⊥ : EReal) else (Real.log 1 : EReal)) = 0
  rw [if_neg (by norm_num), Real.log_one]
  rfl

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem lsg_coe (r : ℝ) : lsg r = ((-(max (-r) 0 + lp r) : ℝ) : EReal) := by
  unfold lsg
  rw [← EReal.coe_neg, exp_neg_abs, log_one_add, show lp (-r) = lp r by rw [lp, lp, abs_neg], ← EReal.coe_zero, coe_max, ← EReal.coe_add, ← EReal.coe_neg]
theorem lgS_coe (r : ℝ) : lgS r = ((min r 0 - lp r : ℝ) : EReal) := by
  unfold lgS
  rw [zero_sub, exp_neg_abs, max_eq_left, log_one_add, ← EReal.coe_zero, coe_min, ← EReal.coe_sub]
  rw [← EReal.coe_one, ← EReal.coe_add, EReal.coe_le_coe_iff]
  linarith [Real.exp_pos (-|r|)]
theorem exp_bot : Ideal.exp ⊥ = 0 := rfl
theorem lsg_top : lsg ⊤ = 0 := by simp [lsg, exp_bot, log_one]
theorem lsg_bot : lsg ⊥ = ⊥ := by simp [lsg, exp_bot, log_one]
theorem lgS_top : lgS ⊤ = 0 := by simp [lgS, exp_bot, log_one]
theorem lgS_bot : lgS ⊥ = ⊥ := by simp [lgS, exp_bot, log_one]

/-- The two ways to write the log of the logistic function. -/
theorem lsg_eq (z : EReal) : lsg z = lgS z := by
  induction z with
  | bot => rw [lsg_bot, lgS_bot]
  | top => rw [lsg_top, lgS_top]
  | coe r =>
    rw [lsg_coe, lgS_coe]
    congr 1
    rcases le_total r 0 with h | h
    · rw [min_eq_left h, max_eq_left (by linarith)]; ring
    · rw [min_eq_right h, max_eq_right (by linarith)]; ring

/-- The log of a weight: the log of the logistic of the score, and the logs of the keys after it, against all the logs from it on less the negated score. -/
theorem weight_log (z c : EReal) (hc : c ≠ ⊤) : lsg (-z) + ((lgS z + c) - lgS z) = (lgS z + c) - z := by
  induction z with
  | bot => simp [lgS_bot, lsg_top]
  | top =>
    rw [EReal.neg_top, lsg_bot, EReal.bot_add, lgS_top, zero_add]
    induction c with
    | bot => rfl
    | top => exact absurd rfl hc
    | coe r => rfl
  | coe r =>
    induction c with
    | bot => simp
    | top => exact absurd rfl hc
    | coe s =>
      rw [← EReal.coe_neg, lsg_eq, lgS_coe, lgS_coe]
      norm_cast
      rw [lp, lp, abs_neg]
      rcases le_total r 0 with h | h
      · rw [min_eq_left h, min_eq_right (by linarith)]; ring
      · rw [min_eq_right h, min_eq_left (by linarith)]; ring

namespace Row
variable (R : Row)

theorem C_ne_top (J : ℕ) : R.C J ≠ ⊤ := by
  unfold C
  induction Ico J N using Finset.induction_on with
  | empty => simp
  | insert a s ha ih => rw [Finset.sum_insert ha]; exact EReal.add_ne_top (R.lk_ne_top a) ih

/-- A weight by the reference's formula. -/
theorem W_ref (j : ℕ) (hj : j < R.i) (hi : R.i ≤ N) : R.W j = Ideal.exp (lsg (-R.z j) + (R.C j - R.lk j)) := by
  have h : R.C j = R.lk j + R.C (j + 1) := by
    rw [← R.C_split j (j + 1) (by omega) (by omega), Finset.sum_Ico_succ_top (by omega), Finset.Ico_self, Finset.sum_empty, zero_add]
  have hl : R.lk j = lgS (R.z j) := if_pos hj
  rw [W, if_pos hj, h, hl, weight_log _ _ (R.C_ne_top _)]

/-- The sum over a window that reaches past the query. -/
theorem C_window (j n : ℕ) (hj : j ≤ R.i) (hi : R.i ≤ N) (hn : R.i ≤ j + n) : ∑ w : Fin n, R.lk (j + w.val) = R.C j := by
  rw [Fin.sum_univ_eq_sum_range (fun w => R.lk (j + w)) n]
  have h1 : ∑ w ∈ Finset.range n, R.lk (j + w) = ∑ k ∈ Ico j (j + n), R.lk k := by rw [Finset.sum_Ico_eq_sum_range]; simp
  have h2 : ∀ e, R.i ≤ e → ∑ k ∈ Ico j e, R.lk k = ∑ k ∈ Ico j R.i, R.lk k := fun e he => by
    rw [← Finset.sum_Ico_consecutive _ hj he, Finset.sum_eq_zero (s := Ico R.i e), add_zero]
    exact fun k hk => if_neg (by rw [Finset.mem_Ico] at hk; omega)
  rw [h1, h2 _ hn, C, h2 _ hi]

/-- The weighted values, summed over fewer keys when those reach past the query. -/
theorem A_ref (d : Fin 128) (n : ℕ) (hn : R.i ≤ n) (hN : n ≤ N) : ∑ j : Fin n, R.v j.val d * R.W j.val = R.A d 0 := by
  have h := R.A_split d 0 n (by omega)
  rw [Nat.zero_add, R.A_end d n hn, zero_add] at h
  rw [← h]
  refine Finset.sum_congr rfl fun j _ => ?_
  rw [Nat.zero_add, mul_comm]
end Row

theorem foldl_add {n : ℕ} (g : Fin n → EReal) (v : EReal) (l : List (Fin n)) : l.foldl (fun r k => r + g k) v = v + (l.map g).sum := by
  induction l generalizing v with
  | nil => simp
  | cons a l ih => rw [List.foldl_cons, ih, List.map_cons, List.sum_cons, add_assoc]

/-- A sum over a window of a row, the row ending in the window: the entries from the position on. -/
theorem window_sum {A B C M m : ℕ} (x : (⟨4, ![A, B, C, M]⟩ : Shape).Idx → EReal) (f : ℕ → EReal) (a : Fin A) (b : Fin B) (c : Fin C)
    (hx : ∀ k : Fin M, x (ix4 a b c k) = f k.val) (hf : ∀ k, M ≤ k → f k = 0)
    (h : (⟨4, ![A, B, C, M]⟩ : Shape).ReduceWindows ![1, 1, 1, M] ![1, 1, 1, 1] ![0, 0, 0, 0] ![0, 0, 0, m] ⟨4, ![A, B, C, M]⟩) (k : Fin M) :
    Ideal.hostReduceWindowAdd ![1, 1, 1, M] ![1, 1, 1, 1] ![0, 0, 0, 0] ![0, 0, 0, m] h x 0 (ix4 a b c k) = ∑ w : Fin M, f (k.val + w.val) := by
  have hnum : (⟨4, ![1, 1, 1, M]⟩ : Shape).numel = M := by simp [Shape.numel, Fin.prod_univ_succ]
  unfold Ideal.hostReduceWindowAdd Host.reduceWindow
  refine (foldl_add _ _ _).trans ?_
  rw [zero_add, ← Fin.sum_univ_def]
  refine Fintype.sum_equiv (finCongr hnum) _ _ fun n => ?_
  have e : (⟨4, ![1, 1, 1, M]⟩ : Shape).rowMajor.symm n = ix4 (0 : Fin 1) (0 : Fin 1) (0 : Fin 1) (n.cast hnum) :=
    ((⟨4, ![1, 1, 1, M]⟩ : Shape).rowMajor.symm_apply_eq).2 (Fin.ext (by
      rw [Shape.rowMajor_val_four]
      show n.val = ((0 * 1 + 0) * 1 + 0) * M + n.val
      omega))
  dsimp only
  split
  · next hin =>
    have h3 := (hin 3).2
    change k.val * 1 + ((⟨4, ![1, 1, 1, M]⟩ : Shape).rowMajor.symm n 3).val - 0 < M at h3
    rw [e] at h3
    change k.val * 1 + n.val - 0 < M at h3
    show _ = f (k.val + n.val)
    rw [← hx ⟨k.val + n.val, by omega⟩]
    refine congrArg x (funext fun d => Fin.ext ?_)
    match d with
    | ⟨0, _⟩ => show a.val * 1 + ((⟨4, ![1, 1, 1, M]⟩ : Shape).rowMajor.symm n 0).val - 0 = a.val; rw [e]; show a.val * 1 + 0 - 0 = a.val; omega
    | ⟨1, _⟩ => show b.val * 1 + ((⟨4, ![1, 1, 1, M]⟩ : Shape).rowMajor.symm n 1).val - 0 = b.val; rw [e]; show b.val * 1 + 0 - 0 = b.val; omega
    | ⟨2, _⟩ => show c.val * 1 + ((⟨4, ![1, 1, 1, M]⟩ : Shape).rowMajor.symm n 2).val - 0 = c.val; rw [e]; show c.val * 1 + 0 - 0 = c.val; omega
    | ⟨3, _⟩ => show k.val * 1 + ((⟨4, ![1, 1, 1, M]⟩ : Shape).rowMajor.symm n 3).val - 0 = k.val + n.val; rw [e]; show k.val * 1 + n.val - 0 = k.val + n.val; omega
  · next hin =>
    refine (hf _ ?_).symm
    show M ≤ k.val + n.val
    by_contra hlt
    refine hin fun d => ?_
    match d with
    | ⟨0, _⟩ => show 0 ≤ _ ∧ a.val * 1 + ((⟨4, ![1, 1, 1, M]⟩ : Shape).rowMajor.symm n 0).val - 0 < A; rw [e]; show 0 ≤ _ ∧ a.val * 1 + 0 - 0 < A; omega
    | ⟨1, _⟩ => show 0 ≤ _ ∧ b.val * 1 + ((⟨4, ![1, 1, 1, M]⟩ : Shape).rowMajor.symm n 1).val - 0 < B; rw [e]; show 0 ≤ _ ∧ b.val * 1 + 0 - 0 < B; omega
    | ⟨2, _⟩ => show 0 ≤ _ ∧ c.val * 1 + ((⟨4, ![1, 1, 1, M]⟩ : Shape).rowMajor.symm n 2).val - 0 < C; rw [e]; show 0 ≤ _ ∧ c.val * 1 + 0 - 0 < C; omega
    | ⟨3, _⟩ => show 0 ≤ _ ∧ k.val * 1 + ((⟨4, ![1, 1, 1, M]⟩ : Shape).rowMajor.symm n 3).val - 0 < M; rw [e]; show 0 ≤ _ ∧ k.val * 1 + n.val - 0 < M; omega

end Cert.Proof

end
-- ==== Proof.RefRead.lean ====
module

public import proofs.«01_k».proof.Defs
public import proofs.«01_k».proof.Proof.RowRef
public import proofs.«01_k».proof.Proof.Gen.ReferenceIdeal.Read
public import Idealize.ShloMosaic.Lib.WordCmp

@[expose] public section

set_option maxRecDepth 16384

noncomputable section

namespace Cert.Proof

open Idealize.ShloMosaic

/-! ## The rows of the queries, keys and values -/

/-- Query `i` of head `H` in sequence `b`, with every key and value of that head. -/
def rowOf (X : (⟨3, ![4, 2064, 12288]⟩ : Shape).Idx → EReal) (b : Fin 4) (H : Fin 32) (i : Fin 2064) : Row where
  q e := X (ix3 b i ⟨128 * H.val + e.val, by omega⟩)
  k j e := if h : j < 2064 then X (ix3 b ⟨j, h⟩ ⟨4096 + 128 * H.val + e.val, by omega⟩) else 0
  v j e := if h : j < 2064 then X (ix3 b ⟨j, h⟩ ⟨8192 + 128 * H.val + e.val, by omega⟩) else 0
  i := i.val

end Cert.Proof

namespace Cert.ReferenceIdeal.Read

open Idealize.ShloMosaic Idealize.ShloMosaic.TcCoe Cert.Proof Cert.ReferenceIdeal

/-! ## The reference's result, row by row -/

section
variable (X : (⟨S4x2064x12288, .bf16⟩ : BufTy).Contents (Elt Ideal)) (b : Fin 4) (H : Fin 32) (i : Fin 2064)

theorem head_idx (e : Fin 128) : idx_main_v3 (ix4 b i H e) = ix5 b i (0 : Fin 1) H e := by
  have hb := b.isLt; have hi := i.isLt; have hH := H.isLt; have he := e.isLt
  refine funext fun a => Fin.ext ?_
  match a with
  | ⟨0, _⟩ => show (((b.val * 2064 + i.val) * 32 + H.val) * 128 + e.val) / 8454144 = b.val; omega
  | ⟨1, _⟩ => show (((b.val * 2064 + i.val) * 32 + H.val) * 128 + e.val) / 4096 % 2064 = i.val; omega
  | ⟨2, _⟩ => rfl
  | ⟨3, _⟩ => show (((b.val * 2064 + i.val) * 32 + H.val) * 128 + e.val) / 128 % 32 = H.val; omega
  | ⟨4, _⟩ => show (((b.val * 2064 + i.val) * 32 + H.val) * 128 + e.val) % 128 = e.val; omega

theorem whole_idx (s : Fin 3) (e : Fin 128) : idx_main_v1 (ix5 b i s H e) = ix3 b i ⟨4096 * s.val + 128 * H.val + e.val, by omega⟩ := by
  have hb := b.isLt; have hi := i.isLt; have hH := H.isLt; have he := e.isLt; have hs := s.isLt
  refine funext fun a => Fin.ext ?_
  match a with
  | ⟨0, _⟩ => show ((((b.val * 2064 + i.val) * 3 + s.val) * 32 + H.val) * 128 + e.val) / 25362432 = b.val; omega
  | ⟨1, _⟩ => show ((((b.val * 2064 + i.val) * 3 + s.val) * 32 + H.val) * 128 + e.val) / 12288 % 2064 = i.val; omega
  | ⟨2, _⟩ => show ((((b.val * 2064 + i.val) * 3 + s.val) * 32 + H.val) * 128 + e.val) % 12288 = 4096 * s.val + 128 * H.val + e.val; omega

theorem part_idx : (∀ e, idx_main_v2 (ix5 b i (0 : Fin 1) H e) = ix5 b i (0 : Fin 3) H e) ∧ (∀ e, idx_main_v4 (ix5 b i (0 : Fin 1) H e) = ix5 b i (1 : Fin 3) H e)
    ∧ ∀ e, idx_main_v6 (ix5 b i (0 : Fin 1) H e) = ix5 b i (2 : Fin 3) H e := by
  refine ⟨fun e => funext fun a => ?_, fun e => funext fun a => ?_, fun e => funext fun a => ?_⟩
  all_goals
    match a with
    | ⟨0, _⟩ => rfl
    | ⟨1, _⟩ => rfl
    | ⟨2, _⟩ => rfl
    | ⟨3, _⟩ => rfl
    | ⟨4, _⟩ => rfl

theorem q_apply (e : Fin 128) : val_main_v3 (F := Ideal) X (ix4 b i H e) = (rowOf X b H i).q e := by
  rw [val_main_v3_apply, head_idx, val_main_v2_apply, (part_idx b H i).1, val_main_v1_apply, whole_idx, val_main_v0_apply]
  exact congrArg X (congrArg (ix3 b i) (Fin.ext (by simp)))

theorem k_apply (j : Fin 2064) (e : Fin 128) : val_main_v5 (F := Ideal) X (ix4 b j H e) = (rowOf X b H i).k j.val e := by
  rw [val_main_v5_apply, show idx_main_v5 (ix4 b j H e) = ix5 b j (0 : Fin 1) H e from head_idx b H j e, val_main_v4_apply, (part_idx b H j).2.1,
    val_main_v1_apply, whole_idx, val_main_v0_apply]
  refine Eq.trans ?_ (dif_pos j.isLt).symm
  exact congrArg X (congrArg (ix3 b j) (Fin.ext (by simp)))

theorem v_apply (j : Fin 2064) (e : Fin 128) : val_main_v7 (F := Ideal) X (ix4 b j H e) = (rowOf X b H i).v j.val e := by
  rw [val_main_v7_apply, show idx_main_v7 (ix4 b j H e) = ix5 b j (0 : Fin 1) H e from head_idx b H j e, val_main_v6_apply, (part_idx b H j).2.2,
    val_main_v1_apply, whole_idx, val_main_v0_apply]
  refine Eq.trans ?_ (dif_pos j.isLt).symm
  exact congrArg X (congrArg (ix3 b j) (Fin.ext (by simp)))

/-- The scale and its negative. -/
theorem scale_neg : Ideal.ofBits .f32 0xBDB504F3#32 = -Ideal.ofBits .f32 0x3DB504F3#32 := by
  have h : Ideal.ofBits .f32 0xBDB504F3#32 = ((-(11863283 / 134217728 : ℝ) : ℝ) : EReal) := by
    simp [Ideal.ofBits, Ideal.ieee, -EReal.coe_mul, -EReal.coe_neg]; norm_num
  have h' : Ideal.ofBits .f32 0x3DB504F3#32 = (((11863283 / 134217728 : ℝ) : ℝ) : EReal) := by
    simp [Ideal.ofBits, Ideal.ieee, -EReal.coe_mul, -EReal.coe_neg]; norm_num
  rw [h, h', EReal.coe_neg]

/-- The scaled scores are minus the row's negated ones. -/
theorem z_apply (j : Fin 2064) : val_main_v10 (F := Ideal) X (ix4 b H i j) = -(rowOf X b H i).z j.val := by
  rw [val_main_v10_apply, val_main_v9_apply, val_main_cst_apply, val_main_v8_apply, Row.z, scale_neg, mul_neg, neg_neg]
  refine congrArg (· * Ideal.ofBits .f32 0x3DB504F3#32) (Finset.sum_congr rfl fun e _ => ?_)
  rw [← q_apply, ← k_apply]
  refine congr (congrArg HMul.hMul (congrArg _ ?_)) (congrArg _ ?_)
  all_goals
    funext a
    match a with
    | ⟨0, _⟩ => rfl
    | ⟨1, _⟩ => rfl
    | ⟨2, _⟩ => rfl
    | ⟨3, _⟩ => rfl

/-- The mask: keys before the query. -/
theorem mask_apply (i j : Fin 2064) : val_main_v17 (F := Ideal) (ix2 i j) = BitVec.ofBool (decide (j.val < i.val)) := by
  rw [val_main_v17_apply, val_main_v15_apply, val_main_v16_apply, val_main_v12_apply, val_main_v14_apply, val_main_v11_apply, val_main_v13_apply]
  have hi := i.isLt; have hj := j.isLt
  exact WordCmp.cmpi_slt_ofNat (by show j.val < _; omega) (by show i.val < _; omega)

/-- A masked entry. -/
theorem sel (i j : Fin 2064) (x y : EReal) : Scalar.select (val_main_v17 (F := Ideal) (ix2 i j)) x y = if j.val < i.val then x else y := by
  rw [mask_apply]
  by_cases h : j.val < i.val <;> simp [h, Scalar.select]

/-- A comparison of a number with itself for difference is false. -/
theorem not_differs (x a b : EReal) : Scalar.select (FloatOps.cmpf (F := Ideal) (φ := .f32) .une x x) a b = b := by
  show Scalar.select (BitVec.ofBool (decide (x ≠ x))) a b = b
  simp [Scalar.select]

/-- The negated softplus of `-x`. -/
theorem softplus_neg (x : EReal) :
    FloatOps.hostNegf (F := Ideal) (φ := .f32) (FloatOps.addf (FloatOps.maximumf (FloatOps.hostNegf x) (FloatOps.ofBits FTy.f32 0#32))
      (FloatOps.hostUnary HostUnaryOp.log1p (FloatOps.hostUnary HostUnaryOp.exp (FloatOps.hostNegf (FloatOps.hostAbsf
        (FloatOps.subf (FloatOps.hostNegf x) (FloatOps.ofBits FTy.f32 0#32))))))) = lsg x := by
  show -(max (-x) (Ideal.ofBits .f32 0#32) + Ideal.log (1 + Ideal.exp (-max (-x - Ideal.ofBits .f32 0#32) (-(-x - Ideal.ofBits .f32 0#32))))) = _
  rw [Ideal.ofBits_zero_f32, sub_zero]
  rfl

/-- The log of one minus a weight. -/
theorem keep_apply (j : Fin 2064) : val_main_v19 (F := Ideal) X (ix4 b H i j) = lsg ((rowOf X b H i).z j.val) := by
  simp only [val_main_v19_apply, val_main_call0_v1_apply, val_main_call0_call0_v11_apply, val_main_call0_call0_v10_apply, val_main_call0_call0_v9_apply,
    val_main_call0_call0_v8_apply, val_main_call0_call0_v7_apply, val_main_call0_call0_v4_apply, val_main_call0_call0_v3_apply,
    val_main_call0_call0_v2_apply, val_main_call0_call0_v1_apply, val_main_call0_call0_v0_apply, val_main_call0_call0_cst_apply, val_main_call0_v0_apply, val_main_v18_apply, z_apply,
    not_differs]
  exact (softplus_neg _).trans (congrArg lsg (neg_neg _))

/-- The log of a weight. -/
theorem log_apply (j : Fin 2064) : val_main_v23 (F := Ideal) X (ix4 b H i j) = lsg (-(rowOf X b H i).z j.val) := by
  simp only [val_main_v23_apply, val_main_call3_v1_apply, val_main_call3_call0_v11_apply, val_main_call3_call0_v10_apply, val_main_call3_call0_v9_apply,
    val_main_call3_call0_v8_apply, val_main_call3_call0_v7_apply, val_main_call3_call0_v4_apply, val_main_call3_call0_v3_apply,
    val_main_call3_call0_v2_apply, val_main_call3_call0_v1_apply, val_main_call3_call0_v0_apply, val_main_call3_call0_cst_apply, val_main_call3_v0_apply, z_apply,
    not_differs]
  exact softplus_neg _

/-- The log of one minus a weight, for a key before the query. -/
theorem lk_apply (j : Fin 2064) : val_main_v20 (F := Ideal) X (ix4 b H i j) = (rowOf X b H i).lk j.val := by
  rw [val_main_v20_apply, val_main_call1_v1_apply, show idx_main_call1_v1 (ix4 b H i j) = ix2 i j from funext fun a => match a with
    | ⟨0, _⟩ => rfl
    | ⟨1, _⟩ => rfl, sel, keep_apply, lsg_eq, val_main_call1_v2_apply, val_main_call1_v0_apply, val_main_cst_0_apply, Row.lk]
  exact if_congr Iff.rfl rfl Ideal.ofBits_zero_f32

theorem suffix_apply (j : Fin 2064) (hj : j.val < i.val) : val_main_v21 (F := Ideal) X (ix4 b H i j) = (rowOf X b H i).C j.val := by
  have hi := i.isLt
  rw [← Row.C_window _ j.val 2064 (by show j.val ≤ i.val; omega) (by show i.val ≤ 2304; omega) (by show i.val ≤ j.val + 2064; omega)]
  have e0 : ∀ p, val_main_call2_v0 (F := Ideal) p = 0 := fun p => by
    rw [val_main_call2_v0_apply, val_main_call2_cst_apply]
    exact Ideal.ofBits_zero_f32
  unfold val_main_v21 Host.reduceWindowAdd
  rw [e0]
  exact window_sum (A := 4) (B := 32) (C := 2064) (M := 2064) (m := 2063) (val_main_v20 (F := Ideal) X) (rowOf X b H i).lk b H i (fun k => lk_apply X b H i k)
    (fun k hk => if_neg (by show ¬k < i.val; omega)) _ j

theorem W_apply (j : Fin 2064) : val_main_v26 (F := Ideal) X (ix4 b H i j) = (rowOf X b H i).W j.val := by
  have hi := i.isLt
  rw [val_main_v26_apply, val_main_call4_v1_apply, show idx_main_call4_v1 (ix4 b H i j) = ix2 i j from funext fun a => match a with
    | ⟨0, _⟩ => rfl
    | ⟨1, _⟩ => rfl, sel, val_main_call4_v2_apply, val_main_call4_v0_apply, val_main_cst_1_apply, val_main_v25_apply, val_main_v24_apply, log_apply, val_main_v22_apply]
  by_cases hj : j.val < i.val
  · rw [if_pos hj, suffix_apply X b H i j hj, lk_apply, Row.W_ref _ _ hj (by show i.val ≤ 2304; omega)]
    rfl
  · refine (if_neg hj).trans (Eq.trans ?_ (if_neg hj).symm)
    exact Ideal.ofBits_zero_f32

/-- The reference's result. -/
theorem out_apply (d : Fin 128) : val_main_v30 (F := Ideal) X (ix3 b i ⟨128 * H.val + d.val, by omega⟩) = (rowOf X b H i).A d 0 := by
  have hb := b.isLt; have hi := i.isLt; have hH := H.isLt; have hd := d.isLt
  have e1 : idx_main_v29 (ix3 b i ⟨128 * H.val + d.val, by omega⟩) = ix4 b i H d := by
    refine funext fun a => Fin.ext ?_
    match a with
    | ⟨0, _⟩ => show ((b.val * 2064 + i.val) * 4096 + (128 * H.val + d.val)) / 8454144 = b.val; omega
    | ⟨1, _⟩ => show ((b.val * 2064 + i.val) * 4096 + (128 * H.val + d.val)) / 4096 % 2064 = i.val; omega
    | ⟨2, _⟩ => show ((b.val * 2064 + i.val) * 4096 + (128 * H.val + d.val)) / 128 % 32 = H.val; omega
    | ⟨3, _⟩ => show ((b.val * 2064 + i.val) * 4096 + (128 * H.val + d.val)) % 128 = d.val; omega
  have e2 : idx_main_v28 (ix4 b i H d) = ix4 b H d i := funext fun a => match a with
    | ⟨0, _⟩ => rfl
    | ⟨1, _⟩ => rfl
    | ⟨2, _⟩ => rfl
    | ⟨3, _⟩ => rfl
  rw [val_main_v30_apply, val_main_v29_apply, e1, val_main_v28_apply, e2, val_main_v27_apply,
    ← Row.A_ref _ d 2064 (by show i.val ≤ 2064; omega) (by decide)]
  refine Finset.sum_congr rfl fun j _ => ?_
  rw [← v_apply, ← W_apply]
  refine congr (congrArg HMul.hMul (congrArg _ ?_)) (congrArg _ ?_)
  all_goals
    funext a
    match a with
    | ⟨0, _⟩ => rfl
    | ⟨1, _⟩ => rfl
    | ⟨2, _⟩ => rfl
    | ⟨3, _⟩ => rfl
end

end Cert.ReferenceIdeal.Read

end
-- ==== Proof.Result.lean ====
/-
  From the blocks to the array: what each grid point reads of the operand, what it leaves in its block of the result, and the whole result, which is the reference's.
-/
module

public import proofs.«01_k».proof.Defs
public import proofs.«01_k».proof.Proof.Body
public import proofs.«01_k».proof.Proof.Sweep
public import proofs.«01_k».proof.Proof.Mask
public import proofs.«01_k».proof.Proof.RefRead
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.Sem

/-! ## Where the blocks lie -/

theorem index_q : ∀ t : Fin grid0.N, win0_0.index t = ![t.val / 36, t.val % 9, t.val / 9 % 4] := by decide +kernel
theorem index_k : ∀ t : Fin grid0.N, win0_1.index t = ![t.val / 36, 0, t.val / 9 % 4 + 4] := by decide +kernel
theorem index_v : ∀ t : Fin grid0.N, win0_2.index t = ![t.val / 36, 0, t.val / 9 % 4 + 8] := by decide +kernel
theorem index_m : ∀ t : Fin grid0.N, win0_3.index t = ![0, 0] := by decide +kernel
theorem index_o : ∀ t : Fin grid0.N, win0_4.index t = ![t.val / 36, t.val % 9, t.val / 9 % 4] := by decide +kernel

/-- The part of a query block inside the array: 16 rows of the ninth block, the whole of the others. -/
theorem size_q : ∀ t : Fin grid0.N, win0_0.xsize (grid0.coords t) = ![1, if t.val % 9 = 8 then 16 else 256, 1024] := by decide +kernel
theorem size_o : ∀ t : Fin grid0.N, win0_4.xsize (grid0.coords t) = ![1, if t.val % 9 = 8 then 16 else 256, 1024] := by decide +kernel

variable (m : (ℓ : Loc nD τ sig) → Buf (Elt Ideal) ℓ) (c : Dev nD) (t : Fin cfg0.N)

/-- The operand. -/
abbrev opnd : (⟨⟨3, ![4, 2064, 12288]⟩, .bf16⟩ : BufTy).Contents (Elt Ideal) := m ((c : Thread nD τ).loc main_arg0)

/-- The matrix's block is the matrix. -/
theorem mask_block : IsMask (iblk m c 3 t) := fun k j => by
  refine Eq.trans ?_ (mask_host m c k j)
  blk_simp [iblk]
  refine congrArg (V m c main_v11) ?_
  blk_ext [index_m t]

theorem q_block (d : Vec Ideal S1x256x1024 .bf16) (r : Fin 256) (hr : t.val % 9 = 8 → r.val < 16) (e : Fin 1024) (b : Fin 4) (i : Fin 2064) (col : Fin 12288)
    (hb : b.val = t.val / 36) (hi : i.val = 256 * (t.val % 9) + r.val) (hcol : col.val = 1024 * (t.val / 9 % 4) + e.val) :
    win0_0.fill (grid0.coords t) d (iblk m c 0 t) (ix3 0 r e) = opnd m c (ix3 b i col) := by
  have hm : win0_0.moved (grid0.coords t) (ix3 0 r e) = true := by
    rw [Pipeline.Window.moved_iff, size_q t]
    intro a
    match a with
    | ⟨0, _⟩ => exact Nat.one_pos
    | ⟨1, _⟩ => show r.val < if t.val % 9 = 8 then 16 else 256; split <;> omega
    | ⟨2, _⟩ => exact e.isLt
  unfold Pipeline.Window.fill
  rw [dif_pos hm]
  blk_simp [iblk, V_main_arg0]
  refine congrArg (opnd m c) ?_
  blk_ext [index_q t]

theorem k_block (j : Fin 2064) (e : Fin 1024) (b : Fin 4) (col : Fin 12288)
    (hb : b.val = t.val / 36) (hcol : col.val = 4096 + 1024 * (t.val / 9 % 4) + e.val) : iblk m c 1 t (ix3 0 j e) = opnd m c (ix3 b j col) := by
  blk_simp [iblk, V_main_arg0]
  refine congrArg (opnd m c) ?_
  blk_ext [index_k t]

theorem v_block (j : Fin 2064) (e : Fin 1024) (b : Fin 4) (col : Fin 12288)
    (hb : b.val = t.val / 36) (hcol : col.val = 8192 + 1024 * (t.val / 9 % 4) + e.val) : iblk m c 2 t (ix3 0 j e) = opnd m c (ix3 b j col) := by
  blk_simp [iblk, V_main_arg0]
  refine congrArg (opnd m c) ?_
  blk_ext [index_v t]

/-! ## What a point leaves, and the result -/

/-- The result: what the reference computes of the operand. -/
abbrev goal : (⟨⟨3, ![4, 2064, 4096]⟩, .bf16⟩ : BufTy).Contents (Elt Ideal) := Cert.ReferenceIdeal.Read.val_main_v30 (F := Ideal) (opnd m c)

/-- The blocks the points read are the rows of the reference. -/
theorem fits_block (d : Vec Ideal S1x256x1024 .bf16) (r : Fin 256) (hr : t.val % 9 = 8 → r.val < 16) (b : Fin 4) (hg : Fin 4) (i : Fin 2064)
    (hb : b.val = t.val / 36) (hh : hg.val = t.val / 9 % 4) (hi : i.val = 256 * (t.val % 9) + r.val) :
    Fits (fun g => rowOf (opnd m c) b ⟨8 * hg.val + g.val, by omega⟩ i) (t.val % 9) r (win0_0.fill (grid0.coords t) d (iblk m c 0 t)) (iblk m c 1 t) (iblk m c 2 t) where
  i _ := hi
  q g e := q_block m c t d r hr _ b i _ hb hi (by show 128 * (8 * hg.val + g.val) + e.val = 1024 * (t.val / 9 % 4) + (128 * g.val + e.val); omega)
  k g j e := Eq.trans (k_block m c t j _ b ⟨4096 + 128 * (8 * hg.val + g.val) + e.val, by omega⟩ hb (by show 4096 + 128 * (8 * hg.val + g.val) + e.val = 4096 + 1024 * (t.val / 9 % 4) + (128 * g.val + e.val); omega)) (Eq.symm (dif_pos j.isLt : (rowOf (opnd m c) b ⟨8 * hg.val + g.val, by omega⟩ i).k j.val e = _))
  v g j e := Eq.trans (v_block m c t j _ b ⟨8192 + 128 * (8 * hg.val + g.val) + e.val, by omega⟩ hb (by show 8192 + 128 * (8 * hg.val + g.val) + e.val = 8192 + 1024 * (t.val / 9 % 4) + (128 * g.val + e.val); omega)) (Eq.symm (dif_pos j.isLt : (rowOf (opnd m c) b ⟨8 * hg.val + g.val, by omega⟩ i).v j.val e = _))

/-- What a point is to leave: its block of the result, and zero past the array's end. -/
def leave (c : Dev nD) (t : Fin cfg0.N) : Vec Ideal S1x256x1024 .bf16 :=
  win0_4.fill (grid0.coords t) (fun _ => (0 : EReal)) (((cfg0.win 4).blk t).view.read (Elt Ideal) (goal m c))

/-- And it does leave it, whatever its staging buffer of the queries held past the array's end. -/
theorem leaves (d : Vec Ideal S1x256x1024 .bf16) : win0_4.cut (grid0.coords t) (foundAt m c t d) = win0_4.cut (grid0.coords t) (leave m c t) := by
  unfold leave
  rw [Pipeline.Window.cut_fill]
  funext y
  have hN : t.val < 144 := t.isLt
  have s1 : (y 1).val < if t.val % 9 = 8 then 16 else 256 := lt_of_lt_of_eq (y 1).isLt (congrFun (size_o t) 1)
  have s0 : (y 0).val < 1 := lt_of_lt_of_eq (y 0).isLt (congrFun (size_o t) 0)
  have s2 : (y 2).val < 1024 := lt_of_lt_of_eq (y 2).isLt (congrFun (size_o t) 2)
  have hr : t.val % 9 = 8 → (y 1).val < 16 := fun h => by rw [if_pos h] at s1; exact s1
  have h256 : (y 1).val < 256 := by split at s1 <;> omega
  have hx : win0_4.xinj (grid0.coords t) y = ix3 (0 : Fin 1) (⟨(y 1).val, h256⟩ : Fin 256) ⟨128 * ((y 2).val / 128) + (y 2).val % 128, by omega⟩ := by
    funext a
    refine Fin.ext ?_
    match a with
    | ⟨0, _⟩ => show (y 0).val = 0; omega
    | ⟨1, _⟩ => rfl
    | ⟨2, _⟩ => show (y 2).val = 128 * ((y 2).val / 128) + (y 2).val % 128; omega
  have hi : 256 * (t.val % 9) + (y 1).val < 2064 := by
    by_cases h : t.val % 9 = 8
    · have := hr h; omega
    · omega
  refine Eq.trans (congrArg (foundAt m c t d) hx) ?_
  unfold foundAt
  refine (found_row c t _ _ _ _ (mask_block m c t) _ ⟨(y 1).val, h256⟩
    (fits_block m c t d ⟨(y 1).val, h256⟩ hr ⟨t.val / 36, by omega⟩ ⟨t.val / 9 % 4, by omega⟩ ⟨256 * (t.val % 9) + (y 1).val, hi⟩ rfl rfl rfl)
    hr ⟨(y 2).val / 128, by omega⟩ ⟨(y 2).val % 128, by omega⟩).trans ?_
  refine (Cert.ReferenceIdeal.Read.out_apply (opnd m c) _ _ _ ⟨(y 2).val % 128, by omega⟩).symm.trans ?_
  blk_simp
  refine congrArg (goal m c) ?_
  blk_ext [index_o t]

/-- The result array when the last block is written back. -/
theorem final : (dats m (leave m) 0 c).arrAt 4 cfg0.N = goal m c := by
  refine (dats m (leave m) 0 c).arrAt_eq_of_covers 4 _ (by decide +kernel) fun t _ y => ?_
  show leave m c t (win0_4.xinj (grid0.coords t) y) = _
  unfold leave
  rw [Pipeline.Window.fill_xinj]
  rfl

/-- The kernel run from `m`: the result is the reference's of the operand, and the operand is as it was. -/
theorem run_result (ρ : Dev nD → PrngReg) : θ_run defs (onTc (τ := τ) (main (F := Ideal))) ⟨m, fun _ => 0, ρ⟩ fun r => ∀ c : Dev nD,
    r.2.mem ((c : Thread nD τ).loc main_v12) = goal m c ∧ r.2.mem ((c : Thread nD τ).loc main_arg0) = m ((c : Thread nD τ).loc main_arg0) :=
  (θ_run defs _ _).mono (fun _ h c => ⟨((h.1 c).1 4).trans (final m c), ((h.1 c).1 2).trans (((dats m (leave m) 0 c).arrAt_in 2 rfl _).trans (V_main_arg0 m c))⟩)
    (run_value m ρ (leave m) fun c t d => leaves m c t d)

end Cert.Proof

end
-- ==== Proof.Up.lean ====
/-
  The feed-forward part's first product: each grid point multiplies a block of 1376 rows by a block of 512 columns over the whole depth and squares
  what is positive, which is the reference's entry there.
-/
module

public import proofs.«01_k».proof.Defs
public import proofs.«01_k».proof.Proof.Gen.KernelUp
public import proofs.«01_k».proof.Proof.Gen.KernelUpIdeal
public import proofs.«01_k».proof.Proof.Gen.ReferenceUpIdeal
public import proofs.«01_k».proof.Proof.Gen.KernelUpIdeal.Value
public import proofs.«01_k».proof.Proof.Gen.ReferenceUpIdeal.Run
public import proofs.«01_k».proof.Proof.Gen.KernelUpIdeal.Frame
public import proofs.«01_k».proof.Proof.Gen.ReferenceUpIdeal.Read
public import Idealize.ShloMosaic.Lib.Pipeline.ValueKit

@[expose] public section

set_option maxRecDepth 16384

noncomputable section

namespace Cert.KernelUpIdeal.Value

open Cert.KernelUpIdeal Cert.KernelUpIdeal.Gen
open Cert.ReferenceUpIdeal.Read
open Idealize.ShloMosaic Idealize.ShloMosaic.TcCoe Idealize.SL.Sem
open Idealize.ShloMosaic.Pipeline (Dat)

variable (m : (ℓ : Loc nD τ sig) → Buf (Elt Ideal) ℓ)

/-- Which block of its array each window shows at a grid point. -/
theorem index : ∀ t : Fin cfg0.N, win0_0.index t = ![t.val / 32, 0] ∧ win0_1.index t = ![1, 0, t.val % 32] ∧ win0_2.index t = ![t.val / 32, t.val % 32] :=
  (by decide +kernel : ∀ t : Fin grid0.N, win0_0.index t = ![t.val / 32, 0] ∧ win0_1.index t = ![1, 0, t.val % 32] ∧ win0_2.index t = ![t.val / 32, t.val % 32])

/-- What a grid point stores at a position of its block is the reference's entry where the block lies. -/
theorem point (c : Dev nD) (t : Fin cfg0.N) (y) : k0_pay1 (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_v6, val_main_v5, val_main_v4, val_main_v3, val_main_v2, val_main_v1, val_main_v0, val_main_call0_v0, val_main_call0_cst]
  blk_point [iblk, V, index t]

/-- The result array after the run is the reference's. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelUpIdeal.Value

namespace Cert.Proof.Up

open Cert.KernelUpIdeal.Value Idealize.ShloMosaic Idealize.ShloMosaic.TcCoe Idealize.SL.Sem

/-- The compiled program and the idealized one call the same bodies. -/
theorem defs_eq : Cert.KernelUpIdeal.defs (F := Bits) = Cert.KernelUp.defs (F := Bits) := by
  unfold Cert.KernelUpIdeal.defs Cert.KernelUp.defs
  refine congrArg (Pipeline.defs (Cert.KernelUp.pcfgs (F := Bits))) ?_
  unfold Cert.KernelUpIdeal.defs₀ Cert.KernelUp.defs₀
  congr 1
  funext l a
  match l, a with
  | 0, (t, s) => rfl
  | ⟨_ + 1, h⟩, _ => exact absurd h (Nat.not_lt.2 (Nat.le_add_left _ _))

/-- As compiled, the first feed-forward product always ends, its operands untouched and its counters back at zero. -/
theorem frame_kernel : Cert.quiescent_KernelUp := fun m ρ _ => by
  rw [← defs_eq]
  exact Cert.KernelUpIdeal.Gen.frame (F := Bits) m ρ

/-- So it does idealized. -/
theorem frame_kernelIdeal : Cert.quiescent_KernelUpIdeal := fun m ρ _ => Cert.KernelUpIdeal.Gen.frame m ρ

/-- So does its reference, which declares no semaphore. -/
theorem frame_reference : Cert.quiescent_ReferenceUpIdeal := fun m ρ _ =>
  (θ_run Cert.ReferenceUpIdeal.defs _ _).mono (fun r h => ⟨fun c => (h c).2, sem_eq_zero_of_no_sems (by decide) r.2⟩) (Cert.ReferenceUpIdeal.Value.run m ρ)

/-- From equal operands the first feed-forward product and its reference end with equal results, over the extended reals. -/
theorem value : Cert.algebraic_KernelUpIdeal_ReferenceUpIdeal := fun m ρ m' ρ' _ hagree =>
  ⟨fun c => Cert.ReferenceUpIdeal.Read.val_main_v6 (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)),
    (θ_run Cert.KernelUpIdeal.defs _ _).mono (fun r h c => ⟨(h c).1.trans (final m c), (h c).2⟩) (run_blocks m ρ),
    (θ_run Cert.ReferenceUpIdeal.defs _ _).mono (fun r h c => ⟨(h c).1.trans ((Cert.ReferenceUpIdeal.Read.val_main_v6_eq _ _).trans (by rw [(hagree c).1, (hagree c).2])), (h c).2⟩) (Cert.ReferenceUpIdeal.Value.run m' ρ')⟩

end Cert.Proof.Up

end
-- ==== Proof.Tiles.lean ====
/-
  A block built up in tiles: the first tile's part is laid on a starting value, each later one is added to what stands there. After the last tile the
  block holds the starting value and the sum of all parts.
-/
module

public import Idealize.ShloMosaic.Lib.Pipeline.ValueKit

@[expose] public section

namespace Cert.Tiles

open Idealize.ShloMosaic

/-- What stands after the last of `J` tiles: the value the first tile started from and the sum of the tiles' parts. -/
theorem last {I : Type} {N : ℕ} (f : (n : ℕ) → n < N → I → EReal) (J : ℕ) [NeZero J] (r p : Fin N → I → EReal)
    (h0 : ∀ (t : Fin N), t.val % J = 0 → ∀ i, f t.val t.isLt i = r t i + p t i)
    (hs : ∀ (t : Fin N), ¬t.val % J = 0 → ∀ i, f t.val t.isLt i = f (t.val - 1) (Nat.lt_of_le_of_lt (Nat.sub_le _ _) t.isLt) i + p t i)
    (t : Fin N) (h : t.val % J = J - 1) (i : I) :
    f t.val t.isLt i = r ⟨J * (t.val / J), Nat.lt_of_le_of_lt (Nat.mul_div_le t.val J) t.isLt⟩ i
      + ∑ s : Fin J, p ⟨J * (t.val / J) + s.val, Pipeline.run_point_lt_of_flush t h s⟩ i := by
  let q : Fin N → I → EReal := fun u j => (if u.val % J = 0 then r u j else 0) + p u j
  refine ((Pipeline.eq_sum_fin_of_reset_step_apply_of_flush (M := EReal) f J (fun _ => 0) q
    (fun u hu j => ?_) (fun u hu j => ?_) t h i).trans (zero_add _)).trans ?_
  · exact (h0 u hu j).trans (by show _ = 0 + ((if u.val % J = 0 then r u j else 0) + p u j); rw [if_pos hu, zero_add])
  · exact (hs u hu j).trans (by show _ = _ + ((if u.val % J = 0 then r u j else 0) + p u j); rw [if_neg hu, zero_add])
  · show ∑ s : Fin J, ((if (J * (t.val / J) + s.val) % J = 0 then _ else 0) + _) = _
    rw [Finset.sum_add_distrib]
    refine congrArg (· + _) ?_
    rw [Finset.sum_eq_single (⟨0, NeZero.pos J⟩ : Fin J) (fun s _ hn => if_neg (by
      rw [Nat.mul_add_mod, Nat.mod_eq_of_lt s.isLt]; exact Fin.val_ne_of_ne hn)) (fun hn => absurd (Finset.mem_univ _) hn)]
    exact if_pos (Nat.mul_mod_right ..)

end Cert.Tiles
-- ==== Proof.Down.lean ====
/-
  The feed-forward part's second product: the depth of 16384 is walked in eight tiles of 2048, the first tile's product laid on the scaled residual,
  each other one added to what stands there. The eight tiles' sum is the reference's whole product.
-/
module

public import proofs.«01_k».proof.Defs
public import proofs.«01_k».proof.Proof.Gen.KernelDown
public import proofs.«01_k».proof.Proof.Gen.KernelDownIdeal
public import proofs.«01_k».proof.Proof.Gen.ReferenceDownIdeal
public import proofs.«01_k».proof.Proof.Gen.KernelDownIdeal.Value
public import proofs.«01_k».proof.Proof.Gen.ReferenceDownIdeal.Run
public import proofs.«01_k».proof.Proof.Gen.KernelDownIdeal.Frame
public import proofs.«01_k».proof.Proof.Gen.ReferenceDownIdeal.Read
public import proofs.«01_k».proof.Proof.Tiles

@[expose] public section

set_option maxRecDepth 16384

noncomputable section

namespace Cert.KernelDownIdeal.Value

open Cert.KernelDownIdeal Cert.KernelDownIdeal.Gen
open Cert.ReferenceDownIdeal.Read
open Idealize.ShloMosaic Idealize.ShloMosaic.TcCoe Idealize.SL.Sem
open Idealize.ShloMosaic.Pipeline (Dat)

variable (m : (ℓ : Loc nD τ sig) → Buf (Elt Ideal) ℓ)

/-- Which block of its array each window shows at a grid point. -/
theorem index : ∀ t : Fin cfg0.N, win0_0.index t = ![t.val / 32, t.val % 8] ∧ win0_1.index t = ![1, t.val % 8, t.val / 8 % 4]
    ∧ win0_2.index t = ![t.val / 32, t.val / 8 % 4] ∧ win0_3.index t = ![t.val / 32, t.val / 8 % 4] :=
  (by decide +kernel : ∀ t : Fin grid0.N, win0_0.index t = ![t.val / 32, t.val % 8] ∧ win0_1.index t = ![1, t.val % 8, t.val / 8 % 4]
    ∧ win0_2.index t = ![t.val / 32, t.val / 8 % 4] ∧ win0_3.index t = ![t.val / 32, t.val / 8 % 4])

/-- One tile's product at a position of the block. -/
def part (a : FVec Ideal S1376x2048 .bf16) (w : FVec Ideal S1x2048x1024 .f32) (y : S1376x1024.Idx) : EReal :=
  ∑ k : Fin 2048, a (ix2 (y 0) k) * w (ix3 0 k (y 1))

/-- The first tile: its product on the scaled residual. -/
theorem left_A (c : Dev nD) (t : Fin cfg0.N) (h : t.val % 8 = 0) (y : S1376x1024.Idx) :
    outsAt0 m c t.val t.isLt y = Ideal.ofBits .f32 0x3FB504F3#32 * (show FVec Ideal S1376x1024 .f32 from iblk m c 2 t) y + part (iblk m c 0 t) (iblk m c 1 t) y := by
  rw [outsAt0_A m c t h (by omega)]
  frame_out
  generalize (iblk m c 0 t : FVec Ideal S1376x2048 .bf16) = a
  generalize (iblk m c 1 t : FVec Ideal S1x2048x1024 .f32) = w
  generalize (iblk m c 2 t : FVec Ideal S1376x1024 .f32) = b
  canon_tiles x hx
  all_goals (open_payloads; pointwise [part]; blk_point [])

/-- Each other tile: its product on what the tile before left. -/
theorem left_B (c : Dev nD) (t : Fin cfg0.N) (h : ¬t.val % 8 = 0) (y : S1376x1024.Idx) :
    outsAt0 m c t.val t.isLt y = outsAt0 m c (t.val - 1) (Nat.lt_of_le_of_lt (Nat.sub_le _ _) t.isLt) y + part (iblk m c 0 t) (iblk m c 1 t) y := by
  rw [outsAt0_B m c t h (by omega)]
  frame_out
  generalize (iblk m c 0 t : FVec Ideal S1376x2048 .bf16) = a
  generalize (iblk m c 1 t : FVec Ideal S1x2048x1024 .f32) = w
  generalize outsAt0 m c (t.val - 1) _ = b
  canon_tiles x hx
  all_goals (open_payloads; pointwise [part]; blk_point [])

/-- What the last tile leaves at a position of the block is the reference's entry where the block lies. -/
theorem point (c : Dev nD) (t : Fin cfg0.N) (h : t.val % 8 = 8 - 1) (y) : outsAt0 m c t.val t.isLt y
    = val_main_v6 (F := Ideal) (m ((c : Thread nD τ).loc main_arg0)) (m ((c : Thread nD τ).loc main_arg1)) (m ((c : Thread nD τ).loc main_arg2))
      (((cfg0.win 3).blk t).view.emb y) := by
  rw [Tiles.last (fun n h => outsAt0 m c n h) 8 _ _ (left_A m c) (left_B m c) t h]
  unfold part
  pointwise [val_main_v6, val_main_v5, val_main_v4, val_main_v3, val_main_v2, val_main_v1, val_main_v0, val_main_cst]
  refine Ideal.add_congr ?_ ?_
  · blk_point [iblk, V, index t, index ⟨8 * (t.val / 8), Nat.lt_of_le_of_lt (Nat.mul_div_le t.val 8) t.isLt⟩]
  refine Fin.sum_mul_add_congr fun s k hl => ?_
  blk_point [iblk, V, index t, index ⟨_, Pipeline.run_point_lt_of_flush t h s⟩]

/-- The result array after the run is the reference's. -/
theorem final (c : Dev nD) : (dats m 0 c).arrAt 3 (cfgs 0).N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t ((flush0_3 t).mp hf) y

end Cert.KernelDownIdeal.Value

namespace Cert.Proof.Down

open Cert.KernelDownIdeal.Value Idealize.ShloMosaic Idealize.ShloMosaic.TcCoe Idealize.SL.Sem

/-- The compiled program and the idealized one call the same bodies. -/
theorem defs_eq : Cert.KernelDownIdeal.defs (F := Bits) = Cert.KernelDown.defs (F := Bits) := by
  unfold Cert.KernelDownIdeal.defs Cert.KernelDown.defs
  refine congrArg (Pipeline.defs (Cert.KernelDown.pcfgs (F := Bits))) ?_
  unfold Cert.KernelDownIdeal.defs₀ Cert.KernelDown.defs₀
  congr 1
  funext l a
  match l, a with
  | 0, (t, s) => rfl
  | ⟨_ + 1, h⟩, _ => exact absurd h (Nat.not_lt.2 (Nat.le_add_left _ _))

/-- As compiled, the second feed-forward product always ends, its operands untouched and its counters back at zero. -/
theorem frame_kernel : Cert.quiescent_KernelDown := fun m ρ _ => by
  rw [← defs_eq]
  exact Cert.KernelDownIdeal.Gen.frame (F := Bits) m ρ

/-- So it does idealized. -/
theorem frame_kernelIdeal : Cert.quiescent_KernelDownIdeal := fun m ρ _ => Cert.KernelDownIdeal.Gen.frame m ρ

/-- So does its reference, which declares no semaphore. -/
theorem frame_reference : Cert.quiescent_ReferenceDownIdeal := fun m ρ _ =>
  (θ_run Cert.ReferenceDownIdeal.defs _ _).mono (fun r h => ⟨fun c => (h c).2, sem_eq_zero_of_no_sems (by decide) r.2⟩) (Cert.ReferenceDownIdeal.Value.run m ρ)

/-- From equal operands the second feed-forward product and its reference end with equal results, over the extended reals. -/
theorem value : Cert.algebraic_KernelDownIdeal_ReferenceDownIdeal := fun m ρ m' ρ' _ hagree =>
  ⟨fun c => Cert.ReferenceDownIdeal.Read.val_main_v6 (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)),
    (θ_run Cert.KernelDownIdeal.defs _ _).mono (fun r h c => ⟨(h c).1.trans (final m c), (h c).2⟩) (run_blocks m ρ),
    (θ_run Cert.ReferenceDownIdeal.defs _ _).mono (fun r h c => ⟨(h c).1.trans ((Cert.ReferenceDownIdeal.Read.val_main_v6_eq _ _ _).trans (by rw [(hagree c).1, (hagree c).2.1, (hagree c).2.2])), (h c).2⟩) (Cert.ReferenceDownIdeal.Value.run m' ρ')⟩

end Cert.Proof.Down

end
-- ==== Proof.Qkv.lean ====
/-
  The product that gives the attention mixer its queries, keys and values: each grid point multiplies a block of 1376 rows by a block of 512 columns over
  the whole depth, which is the reference's entry there.
-/
module

public import proofs.«01_k».proof.Defs
public import proofs.«01_k».proof.Proof.Gen.KernelQkv
public import proofs.«01_k».proof.Proof.Gen.KernelQkvIdeal
public import proofs.«01_k».proof.Proof.Gen.ReferenceQkvIdeal
public import proofs.«01_k».proof.Proof.Gen.KernelQkvIdeal.Value
public import proofs.«01_k».proof.Proof.Gen.ReferenceQkvIdeal.Run
public import proofs.«01_k».proof.Proof.Gen.KernelQkvIdeal.Frame
public import proofs.«01_k».proof.Proof.Gen.ReferenceQkvIdeal.Read
public import Idealize.ShloMosaic.Lib.Pipeline.ValueKit

@[expose] public section

set_option maxRecDepth 16384

noncomputable section

namespace Cert.KernelQkvIdeal.Value

open Cert.KernelQkvIdeal Cert.KernelQkvIdeal.Gen
open Cert.ReferenceQkvIdeal.Read
open Idealize.ShloMosaic Idealize.ShloMosaic.TcCoe Idealize.SL.Sem
open Idealize.ShloMosaic.Pipeline (Dat)

variable (m : (ℓ : Loc nD τ sig) → Buf (Elt Ideal) ℓ)

/-- Which block of its array each window shows at a grid point. -/
theorem index : ∀ t : Fin cfg0.N, win0_0.index t = ![t.val / 24, 0] ∧ win0_1.index t = ![0, 0, t.val % 24] ∧ win0_2.index t = ![t.val / 24, t.val % 24] :=
  (by decide +kernel : ∀ t : Fin grid0.N, win0_0.index t = ![t.val / 24, 0] ∧ win0_1.index t = ![0, 0, t.val % 24] ∧ win0_2.index t = ![t.val / 24, t.val % 24])

/-- What a grid point stores at a position of its block is the reference's entry where the block lies. -/
theorem point (c : Dev nD) (t : Fin cfg0.N) (y) : k0_pay1 (iblk m c 0 t) (iblk m c 1 t) y
    = val_main_v3 (F := Ideal) (m ((c : Thread nD τ).loc main_arg0)) (m ((c : Thread nD τ).loc main_arg1)) (((cfg0.win 2).blk t).view.emb y) := by
  pointwise [k0_pay1, val_main_v3, val_main_v2, val_main_v1, val_main_v0]
  blk_point [iblk, V, index t]

/-- The result array after the run is the reference's. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelQkvIdeal.Value

namespace Cert.Proof.Qkv

open Cert.KernelQkvIdeal.Value Idealize.ShloMosaic Idealize.ShloMosaic.TcCoe Idealize.SL.Sem

/-- The compiled program and the idealized one call the same bodies. -/
theorem defs_eq : Cert.KernelQkvIdeal.defs (F := Bits) = Cert.KernelQkv.defs (F := Bits) := by
  unfold Cert.KernelQkvIdeal.defs Cert.KernelQkv.defs
  refine congrArg (Pipeline.defs (Cert.KernelQkv.pcfgs (F := Bits))) ?_
  unfold Cert.KernelQkvIdeal.defs₀ Cert.KernelQkv.defs₀
  congr 1
  funext l a
  match l, a with
  | 0, (t, s) => rfl
  | ⟨_ + 1, h⟩, _ => exact absurd h (Nat.not_lt.2 (Nat.le_add_left _ _))

/-- As compiled, the attention mixer's input product always ends, its operands untouched and its counters back at zero. -/
theorem frame_kernel : Cert.quiescent_KernelQkv := fun m ρ _ => by
  rw [← defs_eq]
  exact Cert.KernelQkvIdeal.Gen.frame (F := Bits) m ρ

/-- So it does idealized. -/
theorem frame_kernelIdeal : Cert.quiescent_KernelQkvIdeal := fun m ρ _ => Cert.KernelQkvIdeal.Gen.frame m ρ

/-- So does its reference, which declares no semaphore. -/
theorem frame_reference : Cert.quiescent_ReferenceQkvIdeal := fun m ρ _ =>
  (θ_run Cert.ReferenceQkvIdeal.defs _ _).mono (fun r h => ⟨fun c => (h c).2, sem_eq_zero_of_no_sems (by decide) r.2⟩) (Cert.ReferenceQkvIdeal.Value.run m ρ)

/-- From equal operands the attention mixer's input product and its reference end with equal results, over the extended reals. -/
theorem value : Cert.algebraic_KernelQkvIdeal_ReferenceQkvIdeal := fun m ρ m' ρ' _ hagree =>
  ⟨fun c => Cert.ReferenceQkvIdeal.Read.val_main_v3 (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)),
    (θ_run Cert.KernelQkvIdeal.defs _ _).mono (fun r h c => ⟨(h c).1.trans (final m c), (h c).2⟩) (run_blocks m ρ),
    (θ_run Cert.ReferenceQkvIdeal.defs _ _).mono (fun r h c => ⟨(h c).1.trans ((Cert.ReferenceQkvIdeal.Read.val_main_v3_eq _ _).trans (by rw [(hagree c).1, (hagree c).2])), (h c).2⟩) (Cert.ReferenceQkvIdeal.Value.run m' ρ')⟩

end Cert.Proof.Qkv

end
-- ==== Proof.Rkv.lean ====
/-
  The three products that give the recurrent mixer its receptances, keys and values, run one after the other: each grid point of each multiplies a block
  of 1376 rows by a block of 512 columns over the whole depth, and no run touches what another reads or leaves.
-/
module

public import proofs.«01_k».proof.Defs
public import proofs.«01_k».proof.Proof.Gen.KernelRkv
public import proofs.«01_k».proof.Proof.Gen.KernelRkvIdeal
public import proofs.«01_k».proof.Proof.Gen.ReferenceRkvIdeal
public import proofs.«01_k».proof.Proof.Gen.ReferenceRkvIdeal.Run
public import proofs.«01_k».proof.Proof.Gen.KernelRkvIdeal.Frame
public import proofs.«01_k».proof.Proof.Gen.ReferenceRkvIdeal.Read
public import Idealize.ShloMosaic.Lib.Pipeline.ValueKit

@[expose] public section

set_option maxRecDepth 16384

noncomputable section

namespace Cert.KernelRkvIdeal.Value

open Cert.KernelRkvIdeal Cert.KernelRkvIdeal.Gen
open Cert.ReferenceRkvIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable (V : (c : Dev nD) → (b : Ref sig .tc) → Buf (Elt Ideal) ((c : Thread nD τ).loc b))

/-- Which block of its array each window of the first product shows at a grid point. -/
theorem index0 : ∀ t : Fin cfg0.N, win0_0.index t = ![0, t.val / 8, 0] ∧ win0_1.index t = ![0, 0, 0, t.val % 8] ∧ win0_2.index t = ![t.val / 8, t.val % 8] :=
  (by decide +kernel : ∀ t : Fin grid0.N, win0_0.index t = ![0, t.val / 8, 0] ∧ win0_1.index t = ![0, 0, 0, t.val % 8] ∧ win0_2.index t = ![t.val / 8, t.val % 8])

/-- The same for the second product. -/
theorem index1 : ∀ t : Fin cfg1.N, win1_0.index t = ![1, t.val / 8, 0] ∧ win1_1.index t = ![0, 1, 0, t.val % 8] ∧ win1_2.index t = ![t.val / 8, t.val % 8] :=
  (by decide +kernel : ∀ t : Fin grid1.N, win1_0.index t = ![1, t.val / 8, 0] ∧ win1_1.index t = ![0, 1, 0, t.val % 8] ∧ win1_2.index t = ![t.val / 8, t.val % 8])

/-- The same for the third product. -/
theorem index2 : ∀ t : Fin cfg2.N, win2_0.index t = ![2, t.val / 8, 0] ∧ win2_1.index t = ![0, 2, 0, t.val % 8] ∧ win2_2.index t = ![t.val / 8, t.val % 8] :=
  (by decide +kernel : ∀ t : Fin grid2.N, win2_0.index t = ![2, t.val / 8, 0] ∧ win2_1.index t = ![0, 2, 0, t.val % 8] ∧ win2_2.index t = ![t.val / 8, t.val % 8])

/-- The first product's array after its run is the reference's first result, of the two arrays as they stand before it. -/
theorem final0 (c : Dev nD) : (dat0 V c).arrAt 2 cfg0.N = val_main_v4 (F := Ideal) (V c main_arg0) (V c main_arg1) := by
  refine (dat0 V c).arrAt_eq_of_covers 2 _ (by decide +kernel) fun t _ y => ?_
  blk_simp
  rw [after0_2]; frame_out
  pointwise [k0_pay1, val_main_v4, val_main_v3, val_main_v2, val_main_v1, val_main_v0]
  blk_point [iblk0, index0 t]

/-- The same of the second product. -/
theorem final1 (c : Dev nD) : (dat1 V c).arrAt 2 cfg1.N = val_main_v6 (F := Ideal) (V c main_arg0) (V c main_arg1) := by
  refine (dat1 V c).arrAt_eq_of_covers 2 _ (by decide +kernel) fun t _ y => ?_
  blk_simp
  rw [after1_2]; frame_out
  pointwise [k1_pay1, val_main_v6, val_main_v5, val_main_v2, val_main_v1, val_main_v0]
  blk_point [iblk1, index1 t]

/-- The same of the third product. -/
theorem final2 (c : Dev nD) : (dat2 V c).arrAt 2 cfg2.N = val_main_v8 (F := Ideal) (V c main_arg0) (V c main_arg1) := by
  refine (dat2 V c).arrAt_eq_of_covers 2 _ (by decide +kernel) fun t _ y => ?_
  blk_simp
  rw [after2_2]; frame_out
  pointwise [k2_pay1, val_main_v8, val_main_v7, val_main_v2, val_main_v1, val_main_v0]
  blk_point [iblk2, index2 t]

variable (m : (ℓ : Loc nD τ sig) → Buf (Elt Ideal) ℓ) (ρ : Dev nD → PrngReg)

/-- The first result stands to the end as the first product left it. -/
theorem kept0 (c : Dev nD) : W3 m ρ c (Proc.devRef .tc main_v0) = val_main_v4 (F := Ideal) (m ((c : Thread nD τ).loc main_arg0)) (m ((c : Thread nD τ).loc main_arg1)) :=
  (W3_of_ne m ρ c main_v0 (by decide)).trans ((W2_of_ne m ρ c main_v0 (by decide)).trans ((W1_arr m ρ c 2).trans (final0 (V0 m ρ) c)))

/-- The second result stands to the end as the second product left it. -/
theorem kept1 (c : Dev nD) : W3 m ρ c (Proc.devRef .tc main_v1) = val_main_v6 (F := Ideal) (m ((c : Thread nD τ).loc main_arg0)) (m ((c : Thread nD τ).loc main_arg1)) :=
  (W3_of_ne m ρ c main_v1 (by decide)).trans ((W2_arr m ρ c 2).trans ((final1 (V1 m ρ) c).trans
    (congrArg₂ (val_main_v6 (F := Ideal)) (W1_args m ρ c main_arg0 (by decide)) (W1_args m ρ c main_arg1 (by decide)))))

/-- The third result is what the third product left. -/
theorem kept2 (c : Dev nD) : W3 m ρ c (Proc.devRef .tc main_v2) = val_main_v8 (F := Ideal) (m ((c : Thread nD τ).loc main_arg0)) (m ((c : Thread nD τ).loc main_arg1)) :=
  (W3_arr m ρ c 2).trans ((final2 (V2 m ρ) c).trans
    (congrArg₂ (val_main_v8 (F := Ideal)) (W2_args m ρ c main_arg0 (by decide)) (W2_args m ρ c main_arg1 (by decide))))

-- the launch theorem's implicit arguments are found by unifying its conclusion with this one, which takes unfolding plain definitions
set_option backward.isDefEq.respectTransparency.types false in
/-- Every run ends with the three results the reference's and the arguments as they were. -/
theorem run : θ_run defs (onTc (τ := τ) (main (F := Ideal))) ⟨m, fun _ => 0, ρ⟩ fun r => ∀ c : Dev nD,
    r.2.mem ((c.tc : Thread nD τ).loc main_v0) = val_main_v4 (F := Ideal) (m ((c : Thread nD τ).loc main_arg0)) (m ((c : Thread nD τ).loc main_arg1))
    ∧ r.2.mem ((c.tc : Thread nD τ).loc main_v1) = val_main_v6 (F := Ideal) (m ((c : Thread nD τ).loc main_arg0)) (m ((c : Thread nD τ).loc main_arg1))
    ∧ r.2.mem ((c.tc : Thread nD τ).loc main_v2) = val_main_v8 (F := Ideal) (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨(h c _ (mem_uc main_v0 (by decide))).trans (kept0 m ρ c), (h c _ (mem_uc main_v1 (by decide))).trans (kept1 m ρ c),
      (h c _ (mem_uc main_v2 (by decide))).trans (kept2 m ρ c), (h c _ (mem_uc main_arg0 (by decide))).trans (W3_main_arg0 m ρ c),
      (h c _ (mem_uc main_arg1 (by decide))).trans (W3_main_arg1 m ρ c)⟩)

end Cert.KernelRkvIdeal.Value

namespace Cert.Proof.Rkv

open Cert.KernelRkvIdeal.Value Idealize.ShloMosaic Idealize.ShloMosaic.TcCoe Idealize.SL.Sem

/-- The compiled program and the idealized one call the same bodies. -/
theorem defs_eq : Cert.KernelRkvIdeal.defs (F := Bits) = Cert.KernelRkv.defs (F := Bits) := by
  unfold Cert.KernelRkvIdeal.defs Cert.KernelRkv.defs
  refine congrArg (Pipeline.defs (Cert.KernelRkv.pcfgs (F := Bits))) ?_
  unfold Cert.KernelRkvIdeal.defs₀ Cert.KernelRkv.defs₀
  congr 1
  funext l a
  match l, a with
  | 0, (t, s) => rfl
  | 1, (t, s) => rfl
  | 2, (t, s) => rfl
  | ⟨_ + 3, h⟩, _ => exact absurd h (Nat.not_lt.2 (Nat.le_add_left _ _))

/-- As compiled, the recurrent mixer's three input products always ends, its operands untouched and its counters back at zero. -/
theorem frame_kernel : Cert.quiescent_KernelRkv := fun m ρ _ => by
  rw [← defs_eq]
  exact Cert.KernelRkvIdeal.Gen.frame (F := Bits) m ρ

/-- So it does idealized. -/
theorem frame_kernelIdeal : Cert.quiescent_KernelRkvIdeal := fun m ρ _ => Cert.KernelRkvIdeal.Gen.frame m ρ

/-- So does its reference, which declares no semaphore. -/
theorem frame_reference : Cert.quiescent_ReferenceRkvIdeal := fun m ρ _ =>
  (θ_run Cert.ReferenceRkvIdeal.defs _ _).mono (fun r h => ⟨fun c => (h c).2.2.2, sem_eq_zero_of_no_sems (by decide) r.2⟩) (Cert.ReferenceRkvIdeal.Value.run m ρ)

/-- From equal operands the recurrent mixer's three input products and their reference end with equal results, over the extended reals. -/
theorem value : Cert.algebraic_KernelRkvIdeal_ReferenceRkvIdeal := fun m ρ m' ρ' _ hagree =>
  ⟨fun c => Cert.ReferenceRkvIdeal.Read.val_main_v4 (F := Ideal) (m ((c.tc : Thread Cert.KernelRkvIdeal.nD Cert.KernelRkvIdeal.τ).loc Cert.KernelRkvIdeal.main_arg0)) (m ((c.tc : Thread Cert.KernelRkvIdeal.nD Cert.KernelRkvIdeal.τ).loc Cert.KernelRkvIdeal.main_arg1)),
    fun c => Cert.ReferenceRkvIdeal.Read.val_main_v6 (F := Ideal) (m ((c.tc : Thread Cert.KernelRkvIdeal.nD Cert.KernelRkvIdeal.τ).loc Cert.KernelRkvIdeal.main_arg0)) (m ((c.tc : Thread Cert.KernelRkvIdeal.nD Cert.KernelRkvIdeal.τ).loc Cert.KernelRkvIdeal.main_arg1)),
    fun c => Cert.ReferenceRkvIdeal.Read.val_main_v8 (F := Ideal) (m ((c.tc : Thread Cert.KernelRkvIdeal.nD Cert.KernelRkvIdeal.τ).loc Cert.KernelRkvIdeal.main_arg0)) (m ((c.tc : Thread Cert.KernelRkvIdeal.nD Cert.KernelRkvIdeal.τ).loc Cert.KernelRkvIdeal.main_arg1)),
    run m ρ,
    (θ_run Cert.ReferenceRkvIdeal.defs _ _).mono (fun r h c => ⟨(h c).1.trans ((Cert.ReferenceRkvIdeal.Read.val_main_v4_eq _ _).trans (by rw [(hagree c).1, (hagree c).2])), (h c).2.1.trans ((Cert.ReferenceRkvIdeal.Read.val_main_v6_eq _ _).trans (by rw [(hagree c).1, (hagree c).2])), (h c).2.2.1.trans ((Cert.ReferenceRkvIdeal.Read.val_main_v8_eq _ _).trans (by rw [(hagree c).1, (hagree c).2])), (h c).2.2.2⟩) (Cert.ReferenceRkvIdeal.Value.run m' ρ')⟩

end Cert.Proof.Rkv

end
-- ==== Proof.Out.lean ====
/-
  The product that carries a mixer's output back into the layer: the depth of 4096 is walked in two tiles of 2048, the first laid on the scaled
  residual, the second added to what stands there. The two tiles' sum is the reference's whole product.
-/
module

public import proofs.«01_k».proof.Defs
public import proofs.«01_k».proof.Proof.Gen.KernelOut
public import proofs.«01_k».proof.Proof.Gen.KernelOutIdeal
public import proofs.«01_k».proof.Proof.Gen.ReferenceOutIdeal
public import proofs.«01_k».proof.Proof.Gen.KernelOutIdeal.Value
public import proofs.«01_k».proof.Proof.Gen.ReferenceOutIdeal.Run
public import proofs.«01_k».proof.Proof.Gen.KernelOutIdeal.Frame
public import proofs.«01_k».proof.Proof.Gen.ReferenceOutIdeal.Read
public import proofs.«01_k».proof.Proof.Tiles

@[expose] public section

set_option maxRecDepth 16384

noncomputable section

namespace Cert.KernelOutIdeal.Value

open Cert.KernelOutIdeal Cert.KernelOutIdeal.Gen
open Cert.ReferenceOutIdeal.Read
open Idealize.ShloMosaic Idealize.ShloMosaic.TcCoe Idealize.SL.Sem
open Idealize.ShloMosaic.Pipeline (Dat)

variable (m : (ℓ : Loc nD τ sig) → Buf (Elt Ideal) ℓ)

/-- Which block of its array each window shows at a grid point. -/
theorem index : ∀ t : Fin cfg0.N, win0_0.index t = ![t.val / 8, t.val % 2] ∧ win0_1.index t = ![0, t.val % 2, t.val / 2 % 4]
    ∧ win0_2.index t = ![t.val / 8, t.val / 2 % 4] ∧ win0_3.index t = ![t.val / 8, t.val / 2 % 4] :=
  (by decide +kernel : ∀ t : Fin grid0.N, win0_0.index t = ![t.val / 8, t.val % 2] ∧ win0_1.index t = ![0, t.val % 2, t.val / 2 % 4]
    ∧ win0_2.index t = ![t.val / 8, t.val / 2 % 4] ∧ win0_3.index t = ![t.val / 8, t.val / 2 % 4])

/-- One tile's product at a position of the block. -/
def part (a : FVec Ideal S1376x2048 .bf16) (w : FVec Ideal S1x2048x1024 .f32) (y : S1376x1024.Idx) : EReal :=
  ∑ k : Fin 2048, a (ix2 (y 0) k) * w (ix3 0 k (y 1))

/-- The first tile: its product on the scaled residual. -/
theorem left_A (c : Dev nD) (t : Fin cfg0.N) (h : t.val % 2 = 0) (y : S1376x1024.Idx) :
    outsAt0 m c t.val t.isLt y = Ideal.ofBits .f32 0x3FB504F3#32 * (show FVec Ideal S1376x1024 .f32 from iblk m c 2 t) y + part (iblk m c 0 t) (iblk m c 1 t) y := by
  rw [outsAt0_A m c t h (by omega)]
  frame_out
  generalize (iblk m c 0 t : FVec Ideal S1376x2048 .bf16) = a
  generalize (iblk m c 1 t : FVec Ideal S1x2048x1024 .f32) = w
  generalize (iblk m c 2 t : FVec Ideal S1376x1024 .f32) = b
  canon_tiles x hx
  all_goals (open_payloads; pointwise [part]; blk_point [])

/-- Each other tile: its product on what the tile before left. -/
theorem left_B (c : Dev nD) (t : Fin cfg0.N) (h : ¬t.val % 2 = 0) (y : S1376x1024.Idx) :
    outsAt0 m c t.val t.isLt y = outsAt0 m c (t.val - 1) (Nat.lt_of_le_of_lt (Nat.sub_le _ _) t.isLt) y + part (iblk m c 0 t) (iblk m c 1 t) y := by
  rw [outsAt0_B m c t h (by omega)]
  frame_out
  generalize (iblk m c 0 t : FVec Ideal S1376x2048 .bf16) = a
  generalize (iblk m c 1 t : FVec Ideal S1x2048x1024 .f32) = w
  generalize outsAt0 m c (t.val - 1) _ = b
  canon_tiles x hx
  all_goals (open_payloads; pointwise [part]; blk_point [])

/-- What the last tile leaves at a position of the block is the reference's entry where the block lies. -/
theorem point (c : Dev nD) (t : Fin cfg0.N) (h : t.val % 2 = 2 - 1) (y) : outsAt0 m c t.val t.isLt y
    = val_main_v5 (F := Ideal) (m ((c : Thread nD τ).loc main_arg0)) (m ((c : Thread nD τ).loc main_arg1)) (m ((c : Thread nD τ).loc main_arg2))
      (((cfg0.win 3).blk t).view.emb y) := by
  rw [Tiles.last (fun n h => outsAt0 m c n h) 2 _ _ (left_A m c) (left_B m c) t h]
  unfold part
  pointwise [val_main_v5, val_main_v4, val_main_v3, val_main_v2, val_main_v1, val_main_v0, val_main_cst]
  refine Ideal.add_congr ?_ ?_
  · blk_point [iblk, V, index t, index ⟨2 * (t.val / 2), Nat.lt_of_le_of_lt (Nat.mul_div_le t.val 2) t.isLt⟩]
  refine Fin.sum_mul_add_congr fun s k hl => ?_
  blk_point [iblk, V, index t, index ⟨_, Pipeline.run_point_lt_of_flush t h s⟩]

/-- The result array after the run is the reference's. -/
theorem final (c : Dev nD) : (dats m 0 c).arrAt 3 (cfgs 0).N
    = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t ((flush0_3 t).mp hf) y

end Cert.KernelOutIdeal.Value

namespace Cert.Proof.Out

open Cert.KernelOutIdeal.Value Idealize.ShloMosaic Idealize.ShloMosaic.TcCoe Idealize.SL.Sem

/-- The compiled program and the idealized one call the same bodies. -/
theorem defs_eq : Cert.KernelOutIdeal.defs (F := Bits) = Cert.KernelOut.defs (F := Bits) := by
  unfold Cert.KernelOutIdeal.defs Cert.KernelOut.defs
  refine congrArg (Pipeline.defs (Cert.KernelOut.pcfgs (F := Bits))) ?_
  unfold Cert.KernelOutIdeal.defs₀ Cert.KernelOut.defs₀
  congr 1
  funext l a
  match l, a with
  | 0, (t, s) => rfl
  | ⟨_ + 1, h⟩, _ => exact absurd h (Nat.not_lt.2 (Nat.le_add_left _ _))

/-- As compiled, the mixers' output product always ends, its operands untouched and its counters back at zero. -/
theorem frame_kernel : Cert.quiescent_KernelOut := fun m ρ _ => by
  rw [← defs_eq]
  exact Cert.KernelOutIdeal.Gen.frame (F := Bits) m ρ

/-- So it does idealized. -/
theorem frame_kernelIdeal : Cert.quiescent_KernelOutIdeal := fun m ρ _ => Cert.KernelOutIdeal.Gen.frame m ρ

/-- So does its reference, which declares no semaphore. -/
theorem frame_reference : Cert.quiescent_ReferenceOutIdeal := fun m ρ _ =>
  (θ_run Cert.ReferenceOutIdeal.defs _ _).mono (fun r h => ⟨fun c => (h c).2, sem_eq_zero_of_no_sems (by decide) r.2⟩) (Cert.ReferenceOutIdeal.Value.run m ρ)

/-- From equal operands the mixers' output product and its reference end with equal results, over the extended reals. -/
theorem value : Cert.algebraic_KernelOutIdeal_ReferenceOutIdeal := fun m ρ m' ρ' _ hagree =>
  ⟨fun c => Cert.ReferenceOutIdeal.Read.val_main_v5 (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)),
    (θ_run Cert.KernelOutIdeal.defs _ _).mono (fun r h c => ⟨(h c).1.trans (final m c), (h c).2⟩) (run_blocks m ρ),
    (θ_run Cert.ReferenceOutIdeal.defs _ _).mono (fun r h c => ⟨(h c).1.trans ((Cert.ReferenceOutIdeal.Read.val_main_v5_eq _ _ _).trans (by rw [(hagree c).1, (hagree c).2.1, (hagree c).2.2])), (h c).2⟩) (Cert.ReferenceOutIdeal.Value.run m' ρ')⟩

end Cert.Proof.Out

end
-- ==== Proof.Norm.lean ====
/-
  The layer norm between two calls: each grid point normalises 192 whole rows, so a row's mean and variance are the reference's.
-/
module

public import proofs.«01_k».proof.Defs
public import proofs.«01_k».proof.Proof.Gen.KernelNorm
public import proofs.«01_k».proof.Proof.Gen.KernelNormIdeal
public import proofs.«01_k».proof.Proof.Gen.ReferenceNormIdeal
public import proofs.«01_k».proof.Proof.Gen.KernelNormIdeal.Value
public import proofs.«01_k».proof.Proof.Gen.ReferenceNormIdeal.Run
public import proofs.«01_k».proof.Proof.Gen.KernelNormIdeal.Frame
public import proofs.«01_k».proof.Proof.Gen.ReferenceNormIdeal.Read
public import Idealize.ShloMosaic.Lib.Pipeline.ValueKit

@[expose] public section

set_option maxRecDepth 16384

noncomputable section

namespace Cert.KernelNormIdeal.Value

open Cert.KernelNormIdeal Cert.KernelNormIdeal.Gen
open Cert.ReferenceNormIdeal.Read
open Idealize.ShloMosaic Idealize.ShloMosaic.TcCoe Idealize.SL.Sem
open Idealize.ShloMosaic.Pipeline (Dat)

variable (m : (ℓ : Loc nD τ sig) → Buf (Elt Ideal) ℓ)

/-- Which block of its array each window shows at a grid point. -/
theorem index : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0])

/-- What a grid point stores at a position of its block is the reference's entry where the block lies. -/
theorem point (c : Dev nD) (t : Fin cfg0.N) (y) : k0_pay1 (iblk m c 0 t) (iblk m c 1 t) (iblk m c 2 t) y
    = val_main_v27 (F := Ideal) (m ((c : Thread nD τ).loc main_arg0)) (m ((c : Thread nD τ).loc main_arg1)) (m ((c : Thread nD τ).loc main_arg2)) (((cfg0.win 3).blk t).view.emb y) := by
  pointwise [k0_pay1, val_main_v27, val_main_v26, val_main_v25, val_main_v24, val_main_v23, val_main_v22, val_main_v21, val_main_v20, val_main_v19, val_main_v18, val_main_v17, val_main_v16, val_main_v15, val_main_v14, val_main_v13, val_main_cst_3, val_main_v12, val_main_v11, val_main_v10, val_main_v9, val_main_cst_2, val_main_v8, val_main_v7, val_main_cst_1, val_main_v6, val_main_v5, val_main_v4, val_main_v3, val_main_v2, val_main_cst_0, val_main_v1, val_main_v0, val_main_cst]
  blk_point [iblk, V, index t]

/-- The same entry as the second result takes it. -/
theorem point_rounded (c : Dev nD) (t : Fin cfg0.N) (y) : k0_pay2 (iblk m c 0 t) (iblk m c 1 t) (iblk m c 2 t) y
    = val_main_v28 (F := Ideal) (m ((c : Thread nD τ).loc main_arg0)) (m ((c : Thread nD τ).loc main_arg1)) (m ((c : Thread nD τ).loc main_arg2)) (((cfg0.win 4).blk t).view.emb y) :=
  point m c t y

/-- The first result array after the run is the reference's. -/
theorem final (c : Dev nD) : (dats m 0 c).arrAt 3 (cfgs 0).N
    = val_main_v27 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- So is the second. -/
theorem final_rounded (c : Dev nD) : (dats m 0 c).arrAt 4 (cfgs 0).N
    = val_main_v28 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_rounded m c t y

end Cert.KernelNormIdeal.Value

namespace Cert.Proof.Norm

open Cert.KernelNormIdeal.Value Idealize.ShloMosaic Idealize.ShloMosaic.TcCoe Idealize.SL.Sem

/-- The compiled program and the idealized one call the same bodies. -/
theorem defs_eq : Cert.KernelNormIdeal.defs (F := Bits) = Cert.KernelNorm.defs (F := Bits) := by
  unfold Cert.KernelNormIdeal.defs Cert.KernelNorm.defs
  refine congrArg (Pipeline.defs (Cert.KernelNorm.pcfgs (F := Bits))) ?_
  unfold Cert.KernelNormIdeal.defs₀ Cert.KernelNorm.defs₀
  congr 1
  funext l a
  match l, a with
  | 0, (t, s) => rfl
  | ⟨_ + 1, h⟩, _ => exact absurd h (Nat.not_lt.2 (Nat.le_add_left _ _))

/-- As compiled, the layer norm between two calls always ends, its operands untouched and its counters back at zero. -/
theorem frame_kernel : Cert.quiescent_KernelNorm := fun m ρ _ => by
  rw [← defs_eq]
  exact Cert.KernelNormIdeal.Gen.frame (F := Bits) m ρ

/-- So it does idealized. -/
theorem frame_kernelIdeal : Cert.quiescent_KernelNormIdeal := fun m ρ _ => Cert.KernelNormIdeal.Gen.frame m ρ

/-- So does its reference, which declares no semaphore. -/
theorem frame_reference : Cert.quiescent_ReferenceNormIdeal := fun m ρ _ =>
  (θ_run Cert.ReferenceNormIdeal.defs _ _).mono (fun r h => ⟨fun c => (h c).2.2, sem_eq_zero_of_no_sems (by decide) r.2⟩) (Cert.ReferenceNormIdeal.Value.run m ρ)

/-- From equal operands the layer norm between two calls and its reference end with equal results, over the extended reals. -/
theorem value : Cert.algebraic_KernelNormIdeal_ReferenceNormIdeal := fun m ρ m' ρ' _ hagree =>
  ⟨fun c => Cert.ReferenceNormIdeal.Read.val_main_v27 (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)),
    fun c => Cert.ReferenceNormIdeal.Read.val_main_v28 (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)),
    (θ_run Cert.KernelNormIdeal.defs _ _).mono (fun r h c => ⟨(h c).1.trans (final m c), (h c).2.1.trans (final_rounded m c), (h c).2.2⟩) (run_blocks m ρ),
    (θ_run Cert.ReferenceNormIdeal.defs _ _).mono (fun r h c => ⟨(h c).1.trans ((Cert.ReferenceNormIdeal.Read.val_main_v27_eq _ _ _).trans (by rw [(hagree c).1, (hagree c).2.1, (hagree c).2.2])), (h c).2.1.trans ((Cert.ReferenceNormIdeal.Read.val_main_v28_eq _ _ _).trans (by rw [(hagree c).1, (hagree c).2.1, (hagree c).2.2])), (h c).2.2⟩) (Cert.ReferenceNormIdeal.Value.run m' ρ')⟩

end Cert.Proof.Norm

end
-- ==== Proof.Last.lean ====
/-
  The layer norm at the end, without the rows of the prefix: each grid point normalises 256 whole rows of one sequence, beginning 16 rows further down
  than where it stores them.
-/
module

public import proofs.«01_k».proof.Defs
public import proofs.«01_k».proof.Proof.Gen.KernelLast
public import proofs.«01_k».proof.Proof.Gen.KernelLastIdeal
public import proofs.«01_k».proof.Proof.Gen.ReferenceLastIdeal
public import proofs.«01_k».proof.Proof.Gen.KernelLastIdeal.Value
public import proofs.«01_k».proof.Proof.Gen.ReferenceLastIdeal.Run
public import proofs.«01_k».proof.Proof.Gen.KernelLastIdeal.Frame
public import proofs.«01_k».proof.Proof.Gen.ReferenceLastIdeal.Read
public import Idealize.ShloMosaic.Lib.Pipeline.ValueKit
public import Idealize.ShloMosaic.Lib.StableHlo.ReadAt

@[expose] public section

set_option maxRecDepth 16384

noncomputable section

namespace Cert.KernelLastIdeal.Value

open Cert.KernelLastIdeal Cert.KernelLastIdeal.Gen
open Cert.ReferenceLastIdeal.Read
open Idealize.ShloMosaic Idealize.ShloMosaic.TcCoe Idealize.SL.Sem
open Idealize.ShloMosaic.Pipeline (Dat)

variable (m : (ℓ : Loc nD τ sig) → Buf (Elt Ideal) ℓ)

/-- Which block of its array each window shows at a grid point; the first one's rows are counted singly. -/
theorem index : ∀ t : Fin cfg0.N, win0_0.index t = ![t.val / 8, 16 + 256 * (t.val % 8), 0] ∧ win0_1.index t = ![0, 0] ∧ win0_2.index t = ![0, 0] ∧ win0_3.index t = ![t.val / 8, t.val % 8, 0] :=
  (by decide +kernel : ∀ t : Fin grid0.N, win0_0.index t = ![t.val / 8, 16 + 256 * (t.val % 8), 0] ∧ win0_1.index t = ![0, 0] ∧ win0_2.index t = ![0, 0] ∧ win0_3.index t = ![t.val / 8, t.val % 8, 0])

/-- Where a position of the first window's block lies in its array. -/
theorem place (t : Fin cfg0.N) (y : S1x256x4096.Idx) (a : Fin 3) : ((((cfg0.win 0).blk t).view.emb y) a).val = win0_0.index t a + (y a).val := by
  show win0_0.index t a + 1 * (y a).val = _
  rw [Nat.one_mul]

/-- The rows cut into sequences. -/
theorem cut (c : Dev nD) : V m c main_v0 = val_main_v0 (F := Ideal) (m ((c : Thread nD τ).loc main_arg0)) := by
  unfold V
  after_reads_at
  funext i
  pointwise [val_main_v0]

/-- The mean of a row. -/
def mean (x : Fin 4096 → EReal) : EReal := Ideal.div (∑ k, x k) (Ideal.ofBits .f32 0x45800000#32)

/-- A row's entry less the row's mean, over the square root of the row's variance, then scaled and shifted. -/
def entry (x : Fin 4096 → EReal) (d : Fin 4096) (g b : EReal) : EReal :=
  (x d - mean x) * Ideal.rsqrt (mean (fun k => (x k - mean x) * (x k - mean x)) + Ideal.ofBits .f32 0x3727C5AC#32) * g + b

/-- What a grid point stores, from the blocks it reads. -/
theorem stored (z : Vec Ideal S1x256x4096 .f32) (g b : Vec Ideal S1x4096 .f32) (y : S1x256x4096.Idx) :
    k0_pay1 z g b y = entry (fun k => z (ix3 (y 0) (y 1) k)) (y 2) (g (ix2 0 (y 2))) (b (ix2 0 (y 2))) := by
  pointwise [k0_pay1, entry, mean]
  have h0 : y 0 = (0 : Fin 1) := Subsingleton.elim (α := Fin 1) _ _
  rw [h0]

/-- The reference's entry, from the rows cut into sequences. -/
theorem referred (x0 x1 x2) (i : S4x2048x4096.Idx) : val_main_v29 (F := Ideal) x0 x1 x2 i
    = entry (fun k => val_main_v0 (F := Ideal) x0 (ix3 (i 0) ⟨16 + (i 1).val, by have : (i 1).val < 2048 := (i 1).isLt; omega⟩ k)) (i 2) (x1 (ix2 1 (i 2))) (x2 (ix2 1 (i 2))) := by
  simp only [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst_3, val_main_cst_2, val_main_cst_1, val_main_cst_0, val_main_cst]
  generalize val_main_v0 (F := Ideal) x0 = z
  pointwise [entry, mean]

/-- What a grid point stores at a position of its block is the reference's entry where the block lies. -/
theorem point (c : Dev nD) (t : Fin cfg0.N) (y) : k0_pay1 (iblk m c 0 t) (iblk m c 1 t) (iblk m c 2 t) y
    = val_main_v29 (F := Ideal) (m ((c : Thread nD τ).loc main_arg0)) (m ((c : Thread nD τ).loc main_arg1)) (m ((c : Thread nD τ).loc main_arg2)) (((cfg0.win 3).blk t).view.emb y) := by
  rw [stored, referred]
  refine congr (congr (congr (congrArg entry ?_) ?_) ?_) ?_
  · funext k
    refine .trans ?_ (congrFun (cut m c) _)
    unfold iblk
    generalize V m c main_v0 = z
    show z (((cfg0.win 0).blk t).view.emb _) = _
    refine congrArg z (funext fun a => Fin.ext ?_)
    rw [place, (index t).1]
    match a with
    | ⟨0, _⟩ =>
      show t.val / 8 + (y 0).val = ((((cfg0.win 3).blk t).view.emb y) 0).val
      blk_simp [index t]
    | ⟨1, _⟩ =>
      show 16 + 256 * (t.val % 8) + (y 1).val = 16 + ((((cfg0.win 3).blk t).view.emb y) 1).val
      blk_simp [index t]
      omega
    | ⟨2, _⟩ => exact Nat.zero_add _
  · exact Fin.ext (by blk_simp [index t])
  · blk_point [iblk, V, index t]
  · blk_point [iblk, V, index t]

/-- The result array after the run is the reference's. -/
theorem final (c : Dev nD) : (dats m 0 c).arrAt 3 (cfgs 0).N
    = val_main_v29 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.KernelLastIdeal.Value

namespace Cert.Proof.Last

open Cert.KernelLastIdeal.Value Idealize.ShloMosaic Idealize.ShloMosaic.TcCoe Idealize.SL.Sem

/-- The compiled program and the idealized one call the same bodies. -/
theorem defs_eq : Cert.KernelLastIdeal.defs (F := Bits) = Cert.KernelLast.defs (F := Bits) := by
  unfold Cert.KernelLastIdeal.defs Cert.KernelLast.defs
  refine congrArg (Pipeline.defs (Cert.KernelLast.pcfgs (F := Bits))) ?_
  unfold Cert.KernelLastIdeal.defs₀ Cert.KernelLast.defs₀
  congr 1
  funext l a
  match l, a with
  | 0, (t, s) => rfl
  | ⟨_ + 1, h⟩, _ => exact absurd h (Nat.not_lt.2 (Nat.le_add_left _ _))

/-- As compiled, the last layer norm always ends, its operands untouched and its counters back at zero. -/
theorem frame_kernel : Cert.quiescent_KernelLast := fun m ρ _ => by
  rw [← defs_eq]
  exact Cert.KernelLastIdeal.Gen.frame (F := Bits) m ρ

/-- So it does idealized. -/
theorem frame_kernelIdeal : Cert.quiescent_KernelLastIdeal := fun m ρ _ => Cert.KernelLastIdeal.Gen.frame m ρ

/-- So does its reference, which declares no semaphore. -/
theorem frame_reference : Cert.quiescent_ReferenceLastIdeal := fun m ρ _ =>
  (θ_run Cert.ReferenceLastIdeal.defs _ _).mono (fun r h => ⟨fun c => (h c).2, sem_eq_zero_of_no_sems (by decide) r.2⟩) (Cert.ReferenceLastIdeal.Value.run m ρ)

/-- From equal operands the last layer norm and its reference end with equal results, over the extended reals. -/
theorem value : Cert.algebraic_KernelLastIdeal_ReferenceLastIdeal := fun m ρ m' ρ' _ hagree =>
  ⟨fun c => Cert.ReferenceLastIdeal.Read.val_main_v29 (F := Ideal) (m ((c.tc : Thread Cert.KernelLastIdeal.nD Cert.KernelLastIdeal.τ).loc Cert.KernelLastIdeal.main_arg0)) (m ((c.tc : Thread Cert.KernelLastIdeal.nD Cert.KernelLastIdeal.τ).loc Cert.KernelLastIdeal.main_arg1)) (m ((c.tc : Thread Cert.KernelLastIdeal.nD Cert.KernelLastIdeal.τ).loc Cert.KernelLastIdeal.main_arg2)),
    (θ_run Cert.KernelLastIdeal.defs _ _).mono (fun r h c => ⟨(h c).1.trans (final m c), (h c).2⟩) (run_blocks m ρ),
    (θ_run Cert.ReferenceLastIdeal.defs _ _).mono (fun r h c => ⟨(h c).1.trans ((Cert.ReferenceLastIdeal.Read.val_main_v29_eq _ _ _).trans (by rw [(hagree c).1, (hagree c).2.1, (hagree c).2.2])), (h c).2⟩) (Cert.ReferenceLastIdeal.Value.run m' ρ')⟩

end Cert.Proof.Last

end
-- ==== Proof.Mix.lean ====
/-
  The token shift of the RWKV-7 mixer: each row's difference towards the row before it in its sequence, six mixes with it, three of them stored and three
  multiplied with the first factors of the low-rank gates. A block of 688 rows gets the row before its first from a second window, eight rows high, on the same
  array; the products walk the depth in two tiles, and the second tile closes them with the gates' functions.
-/
module

public import proofs.«01_k».proof.Defs
public import proofs.«01_k».proof.Proof.Gen.KernelMix
public import proofs.«01_k».proof.Proof.Gen.KernelMixIdeal
public import proofs.«01_k».proof.Proof.Gen.ReferenceMixIdeal
public import proofs.«01_k».proof.Proof.Gen.KernelMixIdeal.Value
public import proofs.«01_k».proof.Proof.Gen.ReferenceMixIdeal.Run
public import proofs.«01_k».proof.Proof.Gen.KernelMixIdeal.Frame
public import proofs.«01_k».proof.Proof.Gen.ReferenceMixIdeal.Read
public import proofs.«01_k».proof.Proof.Tiles
public import Idealize.ShloMosaic.Lib.StableHlo.ReadAt

@[expose] public section

set_option maxRecDepth 16384

noncomputable section

namespace Cert.KernelMixIdeal.Value

open Cert.KernelMixIdeal Cert.KernelMixIdeal.Gen
open Cert.ReferenceMixIdeal.Read
open Idealize.ShloMosaic Idealize.ShloMosaic.TcCoe Idealize.SL.Sem
open Idealize.ShloMosaic.Pipeline (Dat)

variable (m : (ℓ : Loc nD τ sig) → Buf (Elt Ideal) ℓ)

/-- The row before in its sequence, zero before the first. -/
def prior (h : FVec Ideal S4x2064x4096 .f32) (b : Fin 4) (r : Fin 2064) (d : Fin 4096) : EReal :=
  if r.val = 0 then 0 else h (ix3 b ⟨r.val - 1, Nat.lt_of_le_of_lt (Nat.sub_le _ _) r.isLt⟩ d)

/-- A value moved towards the one before it by the mixing weight. -/
def moved (x p u : EReal) : EReal := x + (p - x) * u

/-- The reference's mixes: each value moved towards the one of the row before. -/
theorem referred (x0 x1 x2) (i : Cert.ReferenceMixIdeal.S6x4x2064x4096.Idx) : val_main_v14 (F := Ideal) x0 x1 x2 i
    = moved (val_main_v2 (F := Ideal) x0 x1 (ix3 (i 1) (i 2) (i 3))) (prior (val_main_v2 (F := Ideal) x0 x1) (i 1) (i 2) (i 3)) (x2 (ix3 0 (i 0) (i 3))) := by
  simp only [val_main_v14, val_main_v13, val_main_v12, val_main_v11, val_main_v10, val_main_v9, val_main_v8, val_main_v7, val_main_v6, val_main_v5, val_main_v4, val_main_v3, val_main_c, val_main_call0_v0]
  generalize val_main_v2 (F := Ideal) x0 x1 = h
  pointwise [moved, prior]
  have h0 : FloatOps.sitofp (F := Ideal) FTy.f32 (0#32 : BitVec 32) = 0 := by
    show (((0#32 : BitVec 32).toInt : ℝ) : EReal) = 0
    simp
  have h2 : (i 2).val < 2064 := (i 2).isLt
  by_cases hr : (i 2).val = 0
  · rw [dif_neg (by omega), if_pos hr, h0]
  · rw [dif_pos (by omega), if_neg hr]

/-- The row before inside a block of rows; before the block's first row a row given with the block, at a sequence's start zero. -/
def above (n : Fin 3) (x : FVec Ideal S1x688x2048 .f32) (q : Fin 2048 → EReal) (r : Fin 688) (d : Fin 2048) : EReal :=
  if r.val = 0 then (if n.val = 0 then 0 else q d) else x (ix3 0 ⟨r.val - 1, Nat.lt_of_le_of_lt (Nat.sub_le _ _) r.isLt⟩ d)

/-- A mix at a position of a block of rows. -/
def mix (n : Fin 3) (x : FVec Ideal S1x688x2048 .f32) (q u : Fin 2048 → EReal) (r : Fin 688) (d : Fin 2048) : EReal :=
  moved (x (ix3 0 r d)) (above n x q r d) (u d)

/-- The kernel's choice by a comparison with zero. -/
theorem sel_zero (a : ℕ) (ha : a < 2 ^ 32) (x y : EReal) : Scalar.select (IntOp.cmpi .eq (BitVec.ofNat 32 a) 0#32) x y = if a = 0 then x else y := by
  rw [show (0#32 : BitVec 32) = BitVec.ofNat 32 0 from rfl, WordCmp.cmpi_eq_ofNat ha (by decide)]
  by_cases h : a = 0 <;> simp [h, Scalar.select]

/-- The difference towards the row before that the kernel forms by rotating the block one row down and putting the row above in. -/
theorem shifted (i : grid0.Coords) (x : Vec Ideal S1x688x2048 .f32) (q : Vec Ideal S1x1x2048 .f32) (r : Fin 688) (d : Fin 2048) :
    k0_pay6 i x q (ix2 r d) = above (i 1) x (fun d => q (ix3 0 0 d)) r d - x (ix3 0 r d) := by
  have h0 := r.isLt
  have h1 : (i 1).val < 3 := (i 1).isLt
  pointwise [k0_pay6, k0_pay5]
  rw [sel_zero _ (by omega), WordCmp.scalar_cmpi_eq, sel_zero _ (by omega)]
  refine congrArg (· - _) ?_
  unfold above
  by_cases hr : r.val = 0
  · rw [if_pos hr, if_pos hr]
  · rw [if_neg hr, if_neg hr]
    refine congrArg x ?_
    congr 1
    exact Fin.ext (by show (r.val + 688 - 1) % 688 = r.val - 1; omega)

/-- The block plus its difference times the weight is the mix. -/
theorem mixed (i : grid0.Coords) (x : Vec Ideal S1x688x2048 .f32) (q : Vec Ideal S1x1x2048 .f32) (u : Fin 2048 → EReal) (r : Fin 688) (d : Fin 2048) :
    x (ix3 0 r d) + k0_pay6 i x q (ix2 r d) * u d = mix (i 1) x (fun d => q (ix3 0 0 d)) u r d := by
  rw [shifted]
  rfl

section Stored

variable (i : grid0.Coords) (x : Vec Ideal S1x688x2048 .f32) (q : Vec Ideal S1x1x2048 .f32) (u : Vec Ideal S1x2048 .f32)

/-- The first stored mix. -/
theorem stored_0 (y : S1x1x688x2048.Idx) : k0_pay7 i x q u y = mix (i 1) x (fun d => q (ix3 0 0 d)) (fun d => u (ix2 0 d)) (y 2) (y 3) := by
  pointwise [k0_pay7, k0_pay5]
  exact mixed i x q (fun d => u (ix2 0 d)) (y 2) (y 3)

/-- The second. -/
theorem stored_1 (y : S1x1x688x2048.Idx) : k0_pay9 (k0_pay8 i x q u) y = mix (i 1) x (fun d => q (ix3 0 0 d)) (fun d => u (ix2 0 d)) (y 2) (y 3) := by
  pointwise [k0_pay9, k0_pay8, k0_pay5]
  exact mixed i x q (fun d => u (ix2 0 d)) (y 2) (y 3)

/-- The third. -/
theorem stored_2 (y : S1x1x688x2048.Idx) : k0_pay10 (k0_pay5 x) (k0_pay6 i x q) u y = mix (i 1) x (fun d => q (ix3 0 0 d)) (fun d => u (ix2 0 d)) (y 2) (y 3) := by
  pointwise [k0_pay10, k0_pay5]
  exact mixed i x q (fun d => u (ix2 0 d)) (y 2) (y 3)

/-- The product of a mix with a tile of the decay gate's first factor, on what stood there. -/
theorem low_w (s : Vec Ideal S1x688x128 .f32) (w : Vec Ideal S2048x128 .bf16) (y : S1x688x128.Idx) : k0_pay14 (k0_pay5 x) (k0_pay6 i x q) u s w y
    = s y + ∑ d, mix (i 1) x (fun d => q (ix3 0 0 d)) (fun d => u (ix2 0 d)) (y 1) d * w (ix2 d (y 2)) := by
  pointwise [k0_pay14, k0_pay5]
  exact congrArg (s y + ·) (Finset.sum_congr rfl fun d _ => congrArg (· * _) (mixed i x q (fun d => u (ix2 0 d)) (y 1) d))

/-- The same of the learning rate's. -/
theorem low_a (s : Vec Ideal S1x688x128 .f32) (w : Vec Ideal S2048x128 .bf16) (y : S1x688x128.Idx) : k0_pay1 (k0_pay15 (k0_pay5 x) (k0_pay6 i x q) u) s w y
    = s y + ∑ d, mix (i 1) x (fun d => q (ix3 0 0 d)) (fun d => u (ix2 0 d)) (y 1) d * w (ix2 d (y 2)) := by
  pointwise [k0_pay1, k0_pay15, k0_pay5]
  exact congrArg (s y + ·) (Finset.sum_congr rfl fun d _ => congrArg (· * _) (mixed i x q (fun d => u (ix2 0 d)) (y 1) d))

/-- The same of the output gate's. -/
theorem low_g (s : Vec Ideal S1x688x480 .f32) (w : Vec Ideal S2048x480 .bf16) (y : S1x688x480.Idx) : k0_pay2 (k0_pay5 x) (k0_pay6 i x q) u s w y
    = s y + ∑ d, mix (i 1) x (fun d => q (ix3 0 0 d)) (fun d => u (ix2 0 d)) (y 1) d * w (ix2 d (y 2)) := by
  pointwise [k0_pay2, k0_pay5]
  exact congrArg (s y + ·) (Finset.sum_congr rfl fun d _ => congrArg (· * _) (mixed i x q (fun d => u (ix2 0 d)) (y 1) d))

end Stored

/-- The sequences the kernel reads: the meta tokens in front of the given ones. -/
theorem host_rows (c : Dev nD) : V m c main_v4 = val_main_v2 (F := Ideal) (m ((c : Thread nD τ).loc main_arg0)) (m ((c : Thread nD τ).loc main_arg1)) := by
  unfold V
  after_reads_simp
  refine (shapeCast_shapeCast _ shapeCasts_S4x2064x4096_S8256x4096 shapeCasts_S8256x4096_S4x2064x4096).trans ?_
  have h1 : StableHlo.upto hostOps0 (fun b => m (c, b)) 2 (Proc.tc.devRef main_v1) = val_main_v1 (F := Ideal) (m ((c : Thread nD τ).loc main_arg1)) := by
    after_reads_simp
    rfl
  have h2 : StableHlo.upto hostOps0 (fun b => m (c, b)) 2 (Proc.tc.devRef main_arg0) = m ((c : Thread nD τ).loc main_arg0) := by
    after_reads_simp
  rw [h1, h2]
  rfl

/-- Which block of its array each window shows at a grid point. -/
theorem index : ∀ t : Fin cfg0.N, win0_0.index t = ![t.val / 6, t.val / 2 % 3, t.val % 2] ∧ win0_1.index t = ![t.val / 6, 86 * (t.val / 2 % 3) - 1, t.val % 2]
    ∧ win0_2.index t = ![0, t.val % 2] ∧ win0_3.index t = ![t.val % 2, 0] ∧ win0_4.index t = ![t.val % 2, 0] ∧ win0_5.index t = ![t.val % 2, 0]
    ∧ win0_6.index t = ![0, t.val / 6, t.val / 2 % 3, t.val % 2] ∧ win0_7.index t = ![t.val / 6, t.val / 2 % 3, 0]
    ∧ win0_8.index t = ![t.val / 6, t.val / 2 % 3, 0] ∧ win0_9.index t = ![t.val / 6, t.val / 2 % 3, 0] :=
  (by decide +kernel : ∀ t : Fin grid0.N, win0_0.index t = ![t.val / 6, t.val / 2 % 3, t.val % 2] ∧ win0_1.index t = ![t.val / 6, 86 * (t.val / 2 % 3) - 1, t.val % 2]
    ∧ win0_2.index t = ![0, t.val % 2] ∧ win0_3.index t = ![t.val % 2, 0] ∧ win0_4.index t = ![t.val % 2, 0] ∧ win0_5.index t = ![t.val % 2, 0]
    ∧ win0_6.index t = ![0, t.val / 6, t.val / 2 % 3, t.val % 2] ∧ win0_7.index t = ![t.val / 6, t.val / 2 % 3, 0]
    ∧ win0_8.index t = ![t.val / 6, t.val / 2 % 3, 0] ∧ win0_9.index t = ![t.val / 6, t.val / 2 % 3, 0])

/-- Which of a sequence's three blocks of rows a grid point takes. -/
theorem coord : ∀ t : Fin cfg0.N, (grid0.coords t 1).val = t.val / 2 % 3 :=
  (by decide +kernel : ∀ t : Fin grid0.N, (grid0.coords t 1).val = t.val / 2 % 3)

/-- A mix whose row above and whose weights are loaded from their blocks. -/
theorem loaded (n : Fin 3) (x : FVec Ideal S1x688x2048 .f32) (p : Vec Ideal S1x8x2048 .f32) (u : Vec Ideal S6x2048 .f32) (o : ℕ) (k : Fin 6) (inb inb')
    (r r' : Fin 688) (d d' : Fin 2048) (ho : o = k.val) (hr : r.val = r'.val) (hd : d.val = d'.val) :
    mix n x (fun d => View.ld p (Rect.unit ![0, 7, 0] ![1, 1, 2048] inb) (ix3 0 0 d)) (fun d => View.ld u (Rect.unit ![o, 0] ![1, 2048] inb') (ix2 0 d)) r d
      = mix n x (fun d => p (ix3 0 7 d)) (fun d => u (ix2 k d)) r' d' := by
  subst ho
  obtain rfl := Fin.ext hr
  obtain rfl := Fin.ext hd
  refine congr (congr (congr (congrArg (mix n x) (funext fun d => ?_)) (funext fun d => ?_)) rfl) rfl
  · exact View.ld_unit_apply_of p _ _ _ _ _ (fun a => by match a with | 0 => rfl | 1 => rfl | 2 => exact (Nat.zero_add _).symm)
  · exact View.ld_unit_apply_of u _ _ _ _ _ (fun a => by match a with | 0 => rfl | 1 => exact (Nat.zero_add _).symm)

/-- The mix with one of the six weights at a position of the block of a grid point. -/
def blockMix (c : Dev nD) (t : Fin cfg0.N) (k : Fin 6) (r : Fin 688) (d : Fin 2048) : EReal :=
  mix (grid0.coords t 1) (iblk m c 0 t) (fun d => (iblk m c 1 t : FVec Ideal S1x8x2048 .f32) (ix3 0 7 d)) (fun d => (iblk m c 2 t : FVec Ideal S6x2048 .f32) (ix2 k d)) r d

/-- The three stored mixes at a grid point of the depth's first tile. -/
theorem mixes_A (c : Dev nD) (t : Fin cfg0.N) (h : t.val % 2 = 0) (y : S3x1x688x2048.Idx) :
    (outsAt0 m c t.val t.isLt).1 y = blockMix m c t ⟨(y 0).val, Nat.lt_trans (y 0).isLt (by decide)⟩ (y 2) (y 3) := by
  rw [outsAt0_A m c t h (by omega)]
  unfold blockMix
  frame_out
  generalize (iblk m c 0 t : FVec Ideal S1x688x2048 .f32) = x
  generalize (iblk m c 1 t : FVec Ideal S1x8x2048 .f32) = p
  generalize (iblk m c 2 t : FVec Ideal S6x2048 .f32) = u
  canon_tiles z hz
  · exact (stored_2 _ _ _ _ z).trans (loaded _ _ _ _ _ _ _ _ _ _ _ _ (by show 2 = (y 0).val; omega) hz2.symm hz3.symm)
  · exact (stored_1 _ _ _ _ z).trans (loaded _ _ _ _ _ _ _ _ _ _ _ _ (by show 1 = (y 0).val; omega) hz2.symm hz3.symm)
  · exact (stored_0 _ _ _ _ z).trans (loaded _ _ _ _ _ _ _ _ _ _ _ _ (by show 0 = (y 0).val; omega) hz2.symm hz3.symm)

/-- The same at one of its second tile. -/
theorem mixes_B (c : Dev nD) (t : Fin cfg0.N) (h : ¬t.val % 2 = 0) (y : S3x1x688x2048.Idx) :
    (outsAt0 m c t.val t.isLt).1 y = blockMix m c t ⟨(y 0).val, Nat.lt_trans (y 0).isLt (by decide)⟩ (y 2) (y 3) := by
  rw [outsAt0_B m c t (by omega) (by omega)]
  unfold blockMix
  frame_out
  generalize (iblk m c 0 t : FVec Ideal S1x688x2048 .f32) = x
  generalize (iblk m c 1 t : FVec Ideal S1x8x2048 .f32) = p
  generalize (iblk m c 2 t : FVec Ideal S6x2048 .f32) = u
  canon_tiles z hz
  · exact (stored_2 _ _ _ _ z).trans (loaded _ _ _ _ _ _ _ _ _ _ _ _ (by show 2 = (y 0).val; omega) hz2.symm hz3.symm)
  · exact (stored_1 _ _ _ _ z).trans (loaded _ _ _ _ _ _ _ _ _ _ _ _ (by show 1 = (y 0).val; omega) hz2.symm hz3.symm)
  · exact (stored_0 _ _ _ _ z).trans (loaded _ _ _ _ _ _ _ _ _ _ _ _ (by show 0 = (y 0).val; omega) hz2.symm hz3.symm)

/-- A tile's product for the decay gate. -/
def partW (c : Dev nD) (t : Fin cfg0.N) (y : S1x688x128.Idx) : EReal := ∑ d, blockMix m c t 3 (y 1) d * (iblk m c 3 t : FVec Ideal S2048x128 .bf16) (ix2 d (y 2))

/-- A tile's product for the learning rate. -/
def partA (c : Dev nD) (t : Fin cfg0.N) (y : S1x688x128.Idx) : EReal := ∑ d, blockMix m c t 4 (y 1) d * (iblk m c 4 t : FVec Ideal S2048x128 .bf16) (ix2 d (y 2))

/-- A tile's product for the output gate. -/
def partG (c : Dev nD) (t : Fin cfg0.N) (y : S1x688x480.Idx) : EReal := ∑ d, blockMix m c t 5 (y 1) d * (iblk m c 5 t : FVec Ideal S2048x480 .bf16) (ix2 d (y 2))

/-- The first tile leaves its product for the decay gate. -/
theorem w_A (c : Dev nD) (t : Fin cfg0.N) (h : t.val % 2 = 0) (y : S1x688x128.Idx) : (outsAt0 m c t.val t.isLt).2.1 y = partW m c t y := by
  rw [outsAt0_A m c t h (by omega)]
  unfold partW blockMix
  frame_out
  generalize (iblk m c 0 t : FVec Ideal S1x688x2048 .f32) = x
  generalize (iblk m c 1 t : FVec Ideal S1x8x2048 .f32) = p
  generalize (iblk m c 2 t : FVec Ideal S6x2048 .f32) = u
  refine (low_w _ _ _ _ _ _ _).trans ((congrArg (· + _) ?_).trans ((zero_add _).trans (Finset.sum_congr rfl fun d _ => congrArg (· * _) (loaded _ _ _ _ _ _ _ _ _ _ _ _ rfl rfl rfl))))
  pointwise [k0_pay11]

/-- The first tile leaves its product for the learning rate. -/
theorem a_A (c : Dev nD) (t : Fin cfg0.N) (h : t.val % 2 = 0) (y : S1x688x128.Idx) : (outsAt0 m c t.val t.isLt).2.2.1 y = partA m c t y := by
  rw [outsAt0_A m c t h (by omega)]
  unfold partA blockMix
  frame_out
  generalize (iblk m c 0 t : FVec Ideal S1x688x2048 .f32) = x
  generalize (iblk m c 1 t : FVec Ideal S1x8x2048 .f32) = p
  generalize (iblk m c 2 t : FVec Ideal S6x2048 .f32) = u
  refine (low_a _ _ _ _ _ _ _).trans ((congrArg (· + _) ?_).trans ((zero_add _).trans (Finset.sum_congr rfl fun d _ => congrArg (· * _) (loaded _ _ _ _ _ _ _ _ _ _ _ _ rfl rfl rfl))))
  pointwise [k0_pay12]

/-- The first tile leaves its product for the output gate. -/
theorem g_A (c : Dev nD) (t : Fin cfg0.N) (h : t.val % 2 = 0) (y : S1x688x480.Idx) : (outsAt0 m c t.val t.isLt).2.2.2 y = partG m c t y := by
  rw [outsAt0_A m c t h (by omega)]
  unfold partG blockMix
  frame_out
  generalize (iblk m c 0 t : FVec Ideal S1x688x2048 .f32) = x
  generalize (iblk m c 1 t : FVec Ideal S1x8x2048 .f32) = p
  generalize (iblk m c 2 t : FVec Ideal S6x2048 .f32) = u
  refine (low_g _ _ _ _ _ _ _).trans ((congrArg (· + _) ?_).trans ((zero_add _).trans (Finset.sum_congr rfl fun d _ => congrArg (· * _) (loaded _ _ _ _ _ _ _ _ _ _ _ _ rfl rfl rfl))))
  pointwise [k0_pay13]

/-- The closing of the decay gate's first half. -/
theorem closed_w (s : Vec Ideal S1x688x128 .f32) (y : S1x688x128.Idx) : k0_pay3 s y = Ideal.tanh (s y) := by
  pointwise [k0_pay3]

/-- The logistic function as both write it. -/
def logistic (x : EReal) : EReal := Ideal.div 1 (1 + Ideal.exp (-x))

/-- The closing of the output gate's first half. -/
theorem closed_g (s : Vec Ideal S1x688x480 .f32) (y : S1x688x480.Idx) : k0_pay4 s y = logistic (s y) := by
  pointwise [k0_pay4, logistic]
  rw [zero_sub]

/-- The second tile leaves the tangent of both products for the decay gate. -/
theorem w_B (c : Dev nD) (t : Fin cfg0.N) (h : ¬t.val % 2 = 0) (y : S1x688x128.Idx) : (outsAt0 m c t.val t.isLt).2.1 y
    = Ideal.tanh ((outsAt0 m c (t.val - 1) (Nat.lt_of_le_of_lt (Nat.sub_le _ _) t.isLt)).2.1 y + partW m c t y) := by
  rw [outsAt0_B m c t (by omega) (by omega)]
  unfold partW blockMix
  frame_out
  generalize (iblk m c 0 t : FVec Ideal S1x688x2048 .f32) = x
  generalize (iblk m c 1 t : FVec Ideal S1x8x2048 .f32) = p
  generalize (iblk m c 2 t : FVec Ideal S6x2048 .f32) = u
  refine (closed_w _ y).trans (congrArg Ideal.tanh ((low_w _ _ _ _ _ _ _).trans (congrArg (_ + ·) (Finset.sum_congr rfl fun d _ => congrArg (· * _) (loaded _ _ _ _ _ _ _ _ _ _ _ _ rfl rfl rfl)))))

/-- The second tile leaves both products for the learning rate. -/
theorem a_B (c : Dev nD) (t : Fin cfg0.N) (h : ¬t.val % 2 = 0) (y : S1x688x128.Idx) : (outsAt0 m c t.val t.isLt).2.2.1 y
    = (outsAt0 m c (t.val - 1) (Nat.lt_of_le_of_lt (Nat.sub_le _ _) t.isLt)).2.2.1 y + partA m c t y := by
  rw [outsAt0_B m c t (by omega) (by omega)]
  unfold partA blockMix
  frame_out
  generalize (iblk m c 0 t : FVec Ideal S1x688x2048 .f32) = x
  generalize (iblk m c 1 t : FVec Ideal S1x8x2048 .f32) = p
  generalize (iblk m c 2 t : FVec Ideal S6x2048 .f32) = u
  refine ((low_a _ _ _ _ _ _ _).trans (congrArg (_ + ·) (Finset.sum_congr rfl fun d _ => congrArg (· * _) (loaded _ _ _ _ _ _ _ _ _ _ _ _ rfl rfl rfl))))

/-- The second tile leaves the logistic function of both products for the output gate. -/
theorem g_B (c : Dev nD) (t : Fin cfg0.N) (h : ¬t.val % 2 = 0) (y : S1x688x480.Idx) : (outsAt0 m c t.val t.isLt).2.2.2 y
    = logistic ((outsAt0 m c (t.val - 1) (Nat.lt_of_le_of_lt (Nat.sub_le _ _) t.isLt)).2.2.2 y + partG m c t y) := by
  rw [outsAt0_B m c t (by omega) (by omega)]
  unfold partG blockMix
  frame_out
  generalize (iblk m c 0 t : FVec Ideal S1x688x2048 .f32) = x
  generalize (iblk m c 1 t : FVec Ideal S1x8x2048 .f32) = p
  generalize (iblk m c 2 t : FVec Ideal S6x2048 .f32) = u
  refine (closed_g _ y).trans (congrArg logistic ((low_g _ _ _ _ _ _ _).trans (congrArg (_ + ·) (Finset.sum_congr rfl fun d _ => congrArg (· * _) (loaded _ _ _ _ _ _ _ _ _ _ _ _ rfl rfl rfl)))))

/-- A grid point's block of rows, in the whole sequences. -/
theorem rows_at (c : Dev nD) (t : Fin cfg0.N) (r : Fin 688) (d : Fin 2048) (b : Fin 4) (R : Fin 2064) (D : Fin 4096)
    (hb : b.val = t.val / 6) (hR : R.val = t.val / 2 % 3 * 688 + r.val) (hD : D.val = t.val % 2 * 2048 + d.val) :
    (iblk m c 0 t : FVec Ideal S1x688x2048 .f32) (ix3 0 r d) = (V m c main_v4 : FVec Ideal S4x2064x4096 .f32) (ix3 b R D) := by
  unfold iblk
  generalize V m c main_v4 = z
  change FVec Ideal S4x2064x4096 .f32 at z
  show z (((cfg0.win 0).blk t).view.emb (ix3 0 r d)) = _
  refine congrArg z ?_
  blk_ext! [index t]

/-- The row above a grid point's block that is not a sequence's first, in the whole sequences. -/
theorem halo_at (c : Dev nD) (t : Fin cfg0.N) (d : Fin 2048) (b : Fin 4) (R : Fin 2064) (D : Fin 4096)
    (hb : b.val = t.val / 6) (hR : R.val = (86 * (t.val / 2 % 3) - 1) * 8 + 7) (hD : D.val = t.val % 2 * 2048 + d.val) :
    (iblk m c 1 t : FVec Ideal S1x8x2048 .f32) (ix3 0 7 d) = (V m c main_v4 : FVec Ideal S4x2064x4096 .f32) (ix3 b R D) := by
  unfold iblk
  generalize V m c main_v4 = z
  change FVec Ideal S4x2064x4096 .f32 at z
  show z (((cfg0.win 1).blk t).view.emb (ix3 0 7 d)) = _
  refine congrArg z ?_
  blk_ext! [index t]

/-- A grid point's block of mix weights, in the whole array. -/
theorem weight_at (c : Dev nD) (t : Fin cfg0.N) (k : Fin 6) (d : Fin 2048) (D : Fin 4096) (hD : D.val = t.val % 2 * 2048 + d.val) :
    (iblk m c 2 t : FVec Ideal S6x2048 .f32) (ix2 k d) = (m ((c : Thread nD τ).loc main_arg2) : FVec Ideal S1x6x4096 .f32) (ix3 0 k D) := by
  have e : (V m c main_v5 : FVec Ideal S6x4096 .f32) (ix2 k D) = (m ((c : Thread nD τ).loc main_arg2) : FVec Ideal S1x6x4096 .f32) (ix3 0 k D) := by
    unfold V
    after_reads_at
  refine .trans ?_ e
  clear e
  unfold iblk
  generalize V m c main_v5 = z
  change FVec Ideal S6x4096 .f32 at z
  show z (((cfg0.win 2).blk t).view.emb (ix2 k d)) = _
  refine congrArg z ?_
  blk_ext! [index t]

/-- A grid point's block of the decay gate's first factor, in the whole array. -/
theorem w_at (c : Dev nD) (t : Fin cfg0.N) (d : Fin 2048) (j : Fin 128) (D : Fin 4096) (hD : D.val = t.val % 2 * 2048 + d.val) :
    (iblk m c 3 t : FVec Ideal S2048x128 .bf16) (ix2 d j) = (m ((c : Thread nD τ).loc main_arg3) : FVec Ideal S1x4096x128 .f32) (ix3 0 D j) := by
  have e : (V m c main_v7 : FVec Ideal S4096x128 .bf16) (ix2 D j) = (m ((c : Thread nD τ).loc main_arg3) : FVec Ideal S1x4096x128 .f32) (ix3 0 D j) := by
    unfold V
    after_reads_at
  refine .trans ?_ e
  clear e
  unfold iblk
  generalize V m c main_v7 = z
  change FVec Ideal S4096x128 .bf16 at z
  show z (((cfg0.win 3).blk t).view.emb (ix2 d j)) = _
  refine congrArg z ?_
  blk_ext! [index t]

/-- A grid point's block of the learning rate's, in the whole array. -/
theorem a_at (c : Dev nD) (t : Fin cfg0.N) (d : Fin 2048) (j : Fin 128) (D : Fin 4096) (hD : D.val = t.val % 2 * 2048 + d.val) :
    (iblk m c 4 t : FVec Ideal S2048x128 .bf16) (ix2 d j) = (m ((c : Thread nD τ).loc main_arg4) : FVec Ideal S1x4096x128 .f32) (ix3 0 D j) := by
  have e : (V m c main_v9 : FVec Ideal S4096x128 .bf16) (ix2 D j) = (m ((c : Thread nD τ).loc main_arg4) : FVec Ideal S1x4096x128 .f32) (ix3 0 D j) := by
    unfold V
    after_reads_at
  refine .trans ?_ e
  clear e
  unfold iblk
  generalize V m c main_v9 = z
  change FVec Ideal S4096x128 .bf16 at z
  show z (((cfg0.win 4).blk t).view.emb (ix2 d j)) = _
  refine congrArg z ?_
  blk_ext! [index t]

/-- A grid point's block of the output gate's, in the whole array. -/
theorem g_at (c : Dev nD) (t : Fin cfg0.N) (d : Fin 2048) (j : Fin 480) (D : Fin 4096) (hD : D.val = t.val % 2 * 2048 + d.val) :
    (iblk m c 5 t : FVec Ideal S2048x480 .bf16) (ix2 d j) = (m ((c : Thread nD τ).loc main_arg5) : FVec Ideal S1x4096x480 .f32) (ix3 0 D j) := by
  have e : (V m c main_v11 : FVec Ideal S4096x480 .bf16) (ix2 D j) = (m ((c : Thread nD τ).loc main_arg5) : FVec Ideal S1x4096x480 .f32) (ix3 0 D j) := by
    unfold V
    after_reads_at
  refine .trans ?_ e
  clear e
  unfold iblk
  generalize V m c main_v11 = z
  change FVec Ideal S4096x480 .bf16 at z
  show z (((cfg0.win 5).blk t).view.emb (ix2 d j)) = _
  refine congrArg z ?_
  blk_ext! [index t]

/-- A grid point's mix is the reference's where its block lies. -/
theorem whole (c : Dev nD) (t : Fin cfg0.N) (k : Fin 6) (r : Fin 688) (d : Fin 2048) (b : Fin 4) (R : Fin 2064) (D : Fin 4096)
    (hb : b.val = t.val / 6) (hR : R.val = t.val / 2 % 3 * 688 + r.val) (hD : D.val = t.val % 2 * 2048 + d.val) :
    blockMix m c t k r d = val_main_v14 (F := Ideal) (m ((c : Thread nD τ).loc main_arg0)) (m ((c : Thread nD τ).loc main_arg1)) (m ((c : Thread nD τ).loc main_arg2)) (ix4 k b R D) := by
  rw [referred, ← host_rows m c]
  unfold blockMix mix
  refine congr (congr (congrArg moved (rows_at m c t r d b R D hb hR hD)) ?_) (weight_at m c t k d D hD)
  unfold above prior
  rw [coord]
  have hR' := R.isLt
  by_cases hr : r.val = 0
  · rw [if_pos hr]
    by_cases hi : t.val / 2 % 3 = 0
    · rw [if_pos hi, if_pos (by show R.val = 0; omega)]
    · rw [if_neg hi, if_neg (by show ¬R.val = 0; omega)]
      exact halo_at m c t d b _ D hb (by show R.val - 1 = _; omega) hD
  · rw [if_neg hr, if_neg (by show ¬R.val = 0; omega)]
    exact rows_at m c t _ d b _ D hb (by show R.val - 1 = _ + (r.val - 1); omega) hD

/-- The reference's product for the decay gate. -/
theorem referred_w (x0 x1 x2 x3) (i : S4x2064x128.Idx) : val_main_v20 (F := Ideal) x0 x1 x2 x3 i
    = ∑ D, val_main_v14 (F := Ideal) x0 x1 x2 (ix4 3 (i 0) (i 1) D) * x3 (ix3 0 D (i 2)) := by
  simp only [val_main_v20, val_main_v19, val_main_v18, val_main_v17]
  generalize val_main_v14 (F := Ideal) x0 x1 x2 = h
  pointwise []

/-- The reference's product for the learning rate. -/
theorem referred_a (x0 x1 x2 x4) (i : S4x2064x128.Idx) : val_main_v25 (F := Ideal) x0 x1 x2 x4 i
    = ∑ D, val_main_v14 (F := Ideal) x0 x1 x2 (ix4 4 (i 0) (i 1) D) * x4 (ix3 0 D (i 2)) := by
  simp only [val_main_v25, val_main_v24, val_main_v23, val_main_v22]
  generalize val_main_v14 (F := Ideal) x0 x1 x2 = h
  pointwise []

/-- The reference's product for the output gate. -/
theorem referred_g (x0 x1 x2 x5) (i : S4x2064x480.Idx) : val_main_v29 (F := Ideal) x0 x1 x2 x5 i
    = ∑ D, val_main_v14 (F := Ideal) x0 x1 x2 (ix4 5 (i 0) (i 1) D) * x5 (ix3 0 D (i 2)) := by
  simp only [val_main_v29, val_main_v28, val_main_v27, val_main_v26]
  generalize val_main_v14 (F := Ideal) x0 x1 x2 = h
  pointwise []

/-- The tangent the reference takes of its product for the decay gate. -/
theorem tangent (x0 x1 x2 x3) (i : S4x2064x128.Idx) : val_main_v21 (F := Ideal) x0 x1 x2 x3 i = Ideal.tanh (val_main_v20 (F := Ideal) x0 x1 x2 x3 i) := by
  rw [val_main_v21_apply]
  generalize val_main_v20 (F := Ideal) x0 x1 x2 x3 i = a
  rfl

/-- The logistic function the reference takes of its product for the output gate. -/
theorem logistic_of (x0 x1 x2 x5) (i : S4x2064x480.Idx) : val_main_v35 (F := Ideal) x0 x1 x2 x5 i = logistic (val_main_v29 (F := Ideal) x0 x1 x2 x5 i) := by
  rw [val_main_v35_apply, val_main_v34_apply, val_main_v33_apply, val_main_v32_apply, val_main_v31_apply, val_main_v30_apply]
  generalize val_main_v29 (F := Ideal) x0 x1 x2 x5 i = a
  change EReal at a
  pointwise [logistic, val_main_cst, val_main_cst_0]

/-- The reference's first three mixes. -/
theorem referred_m (x0 x1 x2) (i : S3x4x2064x4096.Idx) : val_main_v16 (F := Ideal) x0 x1 x2 i
    = val_main_v14 (F := Ideal) x0 x1 x2 (ix4 ⟨(i 0).val, Nat.lt_trans (i 0).isLt (by decide)⟩ (i 1) (i 2) (i 3)) := by
  unfold val_main_v16 val_main_v15
  generalize val_main_v14 (F := Ideal) x0 x1 x2 = h
  change FVec Ideal Cert.ReferenceMixIdeal.S6x4x2064x4096 .f32 at h
  pointwise []

/-- Two tiles' sums are the whole depth's. -/
theorem tiles (f : Fin 4096 → EReal) (g g' : Fin 2048 → EReal) (h : ∀ d : Fin 2048, g d = f ⟨d.val, by omega⟩) (h' : ∀ d : Fin 2048, g' d = f ⟨2048 + d.val, by omega⟩) :
    ∑ d, g d + ∑ d, g' d = ∑ D, f D :=
  (congr (congrArg (· + ·) (Finset.sum_congr rfl fun d _ => h d)) (Finset.sum_congr rfl fun d _ => h' d)).trans (Fin.sum_univ_add (a := 2048) (b := 2048) f).symm

/-- The three mixes a grid point stores are the reference's where its block lies. -/
theorem point_m (c : Dev nD) (t : Fin cfg0.N) (y : S3x1x688x2048.Idx) (b : Fin 4) (R : Fin 2064) (D : Fin 4096)
    (hb : b.val = t.val / 6) (hR : R.val = t.val / 2 % 3 * 688 + (y 2).val) (hD : D.val = t.val % 2 * 2048 + (y 3).val) :
    (outsAt0 m c t.val t.isLt).1 y = val_main_v16 (F := Ideal) (m ((c : Thread nD τ).loc main_arg0)) (m ((c : Thread nD τ).loc main_arg1)) (m ((c : Thread nD τ).loc main_arg2)) (ix4 (y 0) b R D) := by
  have e : (outsAt0 m c t.val t.isLt).1 y = blockMix m c t ⟨(y 0).val, Nat.lt_trans (y 0).isLt (by decide)⟩ (y 2) (y 3) := by
    by_cases h : t.val % 2 = 0
    · exact mixes_A m c t h y
    · exact mixes_B m c t h y
  rw [e, referred_m]
  exact whole m c t _ (y 2) (y 3) b R D hb hR hD

/-- What the second tile leaves for the decay gate is the reference's where its block lies. -/
theorem point_w (c : Dev nD) (t : Fin cfg0.N) (h : t.val % 2 = 1) (y : S1x688x128.Idx) (b : Fin 4) (R : Fin 2064)
    (hb : b.val = t.val / 6) (hR : R.val = t.val / 2 % 3 * 688 + (y 1).val) :
    (outsAt0 m c t.val t.isLt).2.1 y = val_main_v21 (F := Ideal) (m ((c : Thread nD τ).loc main_arg0)) (m ((c : Thread nD τ).loc main_arg1)) (m ((c : Thread nD τ).loc main_arg2)) (m ((c : Thread nD τ).loc main_arg3)) (ix3 b R (y 2)) := by
  rw [w_B m c t (by omega) y, w_A m c ⟨t.val - 1, Nat.lt_of_le_of_lt (Nat.sub_le _ _) t.isLt⟩ (by show (t.val - 1) % 2 = 0; omega) y, tangent, referred_w]
  unfold partW
  refine congrArg Ideal.tanh (tiles _ _ _ (fun d => ?_) (fun d => ?_))
  · exact congr (congrArg (· * ·) (whole m c _ 3 (y 1) d b R _ (by show b.val = (t.val - 1) / 6; omega) (by show R.val = (t.val - 1) / 2 % 3 * 688 + _; omega) (by show d.val = (t.val - 1) % 2 * 2048 + _; omega)))
      (w_at m c _ d (y 2) _ (by show d.val = (t.val - 1) % 2 * 2048 + _; omega))
  · exact congr (congrArg (· * ·) (whole m c t 3 (y 1) d b R _ hb hR (by show 2048 + d.val = _; omega))) (w_at m c t d (y 2) _ (by show 2048 + d.val = _; omega))

/-- What the second tile leaves for the learning rate is the reference's where its block lies. -/
theorem point_a (c : Dev nD) (t : Fin cfg0.N) (h : t.val % 2 = 1) (y : S1x688x128.Idx) (b : Fin 4) (R : Fin 2064)
    (hb : b.val = t.val / 6) (hR : R.val = t.val / 2 % 3 * 688 + (y 1).val) :
    (outsAt0 m c t.val t.isLt).2.2.1 y = val_main_v25 (F := Ideal) (m ((c : Thread nD τ).loc main_arg0)) (m ((c : Thread nD τ).loc main_arg1)) (m ((c : Thread nD τ).loc main_arg2)) (m ((c : Thread nD τ).loc main_arg4)) (ix3 b R (y 2)) := by
  rw [a_B m c t (by omega) y, a_A m c ⟨t.val - 1, Nat.lt_of_le_of_lt (Nat.sub_le _ _) t.isLt⟩ (by show (t.val - 1) % 2 = 0; omega) y, referred_a]
  unfold partA
  refine tiles _ _ _ (fun d => ?_) (fun d => ?_)
  · exact congr (congrArg (· * ·) (whole m c _ 4 (y 1) d b R _ (by show b.val = (t.val - 1) / 6; omega) (by show R.val = (t.val - 1) / 2 % 3 * 688 + _; omega) (by show d.val = (t.val - 1) % 2 * 2048 + _; omega)))
      (a_at m c _ d (y 2) _ (by show d.val = (t.val - 1) % 2 * 2048 + _; omega))
  · exact congr (congrArg (· * ·) (whole m c t 4 (y 1) d b R _ hb hR (by show 2048 + d.val = _; omega))) (a_at m c t d (y 2) _ (by show 2048 + d.val = _; omega))

/-- What the second tile leaves for the output gate is the reference's where its block lies. -/
theorem point_g (c : Dev nD) (t : Fin cfg0.N) (h : t.val % 2 = 1) (y : S1x688x480.Idx) (b : Fin 4) (R : Fin 2064)
    (hb : b.val = t.val / 6) (hR : R.val = t.val / 2 % 3 * 688 + (y 1).val) :
    (outsAt0 m c t.val t.isLt).2.2.2 y = val_main_v35 (F := Ideal) (m ((c : Thread nD τ).loc main_arg0)) (m ((c : Thread nD τ).loc main_arg1)) (m ((c : Thread nD τ).loc main_arg2)) (m ((c : Thread nD τ).loc main_arg5)) (ix3 b R (y 2)) := by
  rw [g_B m c t (by omega) y, g_A m c ⟨t.val - 1, Nat.lt_of_le_of_lt (Nat.sub_le _ _) t.isLt⟩ (by show (t.val - 1) % 2 = 0; omega) y, logistic_of, referred_g]
  unfold partG
  refine congrArg logistic (tiles _ _ _ (fun d => ?_) (fun d => ?_))
  · exact congr (congrArg (· * ·) (whole m c _ 5 (y 1) d b R _ (by show b.val = (t.val - 1) / 6; omega) (by show R.val = (t.val - 1) / 2 % 3 * 688 + _; omega) (by show d.val = (t.val - 1) % 2 * 2048 + _; omega)))
      (g_at m c _ d (y 2) _ (by show d.val = (t.val - 1) % 2 * 2048 + _; omega))
  · exact congr (congrArg (· * ·) (whole m c t 5 (y 1) d b R _ hb hR (by show 2048 + d.val = _; omega))) (g_at m c t d (y 2) _ (by show 2048 + d.val = _; omega))

/-- The array of mixes after the run is the reference's. -/
theorem final_m (c : Dev nD) : (dats m 0 c).arrAt 6 (cfgs 0).N = val_main_v16 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have h2 : (y 2).val < 688 := (y 2).isLt
  have h3 : (y 3).val < 2048 := (y 3).isLt
  have ht : t.val < 24 := t.isLt
  blk_simp
  rw [after0_6]
  refine (point_m m c t y ⟨t.val / 6, by omega⟩ ⟨t.val / 2 % 3 * 688 + (y 2).val, by omega⟩ ⟨t.val % 2 * 2048 + (y 3).val, by omega⟩ rfl rfl rfl).trans ?_
  generalize val_main_v16 (F := Ideal) (m ((c : Thread nD τ).loc main_arg0)) (m ((c : Thread nD τ).loc main_arg1)) (m ((c : Thread nD τ).loc main_arg2)) = z
  change FVec Ideal S3x4x2064x4096 .bf16 at z
  refine congrArg z ?_
  blk_ext! [index t]

/-- The array for the decay gate after the run is the reference's. -/
theorem final_w (c : Dev nD) : (dats m 0 c).arrAt 7 (cfgs 0).N = val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h1 : (y 1).val < 688 := (y 1).isLt
  have ht : t.val < 24 := t.isLt
  blk_simp
  rw [after0_7]
  refine (point_w m c t ((flush0_7 t).mp hf) y ⟨t.val / 6, by omega⟩ ⟨t.val / 2 % 3 * 688 + (y 1).val, by omega⟩ rfl rfl).trans ?_
  generalize val_main_v21 (F := Ideal) (m ((c : Thread nD τ).loc main_arg0)) (m ((c : Thread nD τ).loc main_arg1)) (m ((c : Thread nD τ).loc main_arg2)) (m ((c : Thread nD τ).loc main_arg3)) = z
  change FVec Ideal S4x2064x128 .f32 at z
  refine congrArg z ?_
  blk_ext! [index t]

/-- The array for the learning rate after the run is the reference's. -/
theorem final_a (c : Dev nD) : (dats m 0 c).arrAt 8 (cfgs 0).N = val_main_v25 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  have h1 : (y 1).val < 688 := (y 1).isLt
  have ht : t.val < 24 := t.isLt
  blk_simp
  rw [after0_8]
  refine (point_a m c t ((flush0_8 t).mp hf) y ⟨t.val / 6, by omega⟩ ⟨t.val / 2 % 3 * 688 + (y 1).val, by omega⟩ rfl rfl).trans ?_
  generalize val_main_v25 (F := Ideal) (m ((c : Thread nD τ).loc main_arg0)) (m ((c : Thread nD τ).loc main_arg1)) (m ((c : Thread nD τ).loc main_arg2)) (m ((c : Thread nD τ).loc main_arg4)) = z
  change FVec Ideal S4x2064x128 .f32 at z
  refine congrArg z ?_
  blk_ext! [index t]

/-- The array for the output gate after the run is the reference's. -/
theorem final_g (c : Dev nD) : (dats m 0 c).arrAt 9 (cfgs 0).N = val_main_v35 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 9 _ (by decide +kernel) fun t hf y => ?_
  have h1 : (y 1).val < 688 := (y 1).isLt
  have ht : t.val < 24 := t.isLt
  blk_simp
  rw [after0_9]
  refine (point_g m c t ((flush0_9 t).mp hf) y ⟨t.val / 6, by omega⟩ ⟨t.val / 2 % 3 * 688 + (y 1).val, by omega⟩ rfl rfl).trans ?_
  generalize val_main_v35 (F := Ideal) (m ((c : Thread nD τ).loc main_arg0)) (m ((c : Thread nD τ).loc main_arg1)) (m ((c : Thread nD τ).loc main_arg2)) (m ((c : Thread nD τ).loc main_arg5)) = z
  change FVec Ideal S4x2064x480 .f32 at z
  refine congrArg z ?_
  blk_ext! [index t]

end Cert.KernelMixIdeal.Value

namespace Cert.Proof.Mix

open Cert.KernelMixIdeal.Value Idealize.ShloMosaic Idealize.ShloMosaic.TcCoe Idealize.SL.Sem

/-- The compiled program and the idealized one call the same bodies. -/
theorem defs_eq : Cert.KernelMixIdeal.defs (F := Bits) = Cert.KernelMix.defs (F := Bits) := by
  unfold Cert.KernelMixIdeal.defs Cert.KernelMix.defs
  refine congrArg (Pipeline.defs (Cert.KernelMix.pcfgs (F := Bits))) ?_
  unfold Cert.KernelMixIdeal.defs₀ Cert.KernelMix.defs₀
  congr 1
  funext l a
  match l, a with
  | 0, (t, s) => rfl
  | ⟨_ + 1, h⟩, _ => exact absurd h (Nat.not_lt.2 (Nat.le_add_left _ _))

/-- As compiled, the token shift with its mixes and the gates' first halves always ends, its operands untouched and its counters back at zero. -/
theorem frame_kernel : Cert.quiescent_KernelMix := fun m ρ _ => by
  rw [← defs_eq]
  exact Cert.KernelMixIdeal.Gen.frame (F := Bits) m ρ

/-- So it does idealized. -/
theorem frame_kernelIdeal : Cert.quiescent_KernelMixIdeal := fun m ρ _ => Cert.KernelMixIdeal.Gen.frame m ρ

/-- So does its reference, which declares no semaphore. -/
theorem frame_reference : Cert.quiescent_ReferenceMixIdeal := fun m ρ _ =>
  (θ_run Cert.ReferenceMixIdeal.defs _ _).mono (fun r h => ⟨fun c => (h c).2.2.2.2, sem_eq_zero_of_no_sems (by decide) r.2⟩) (Cert.ReferenceMixIdeal.Value.run m ρ)

/-- From equal operands the call and its reference end with equal results, all four, over the extended reals. -/
theorem value : Cert.algebraic_KernelMixIdeal_ReferenceMixIdeal := fun m ρ m' ρ' _ hagree =>
  ⟨fun c => Cert.ReferenceMixIdeal.Read.val_main_v16 (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)),
    fun c => Cert.ReferenceMixIdeal.Read.val_main_v21 (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)),
    fun c => Cert.ReferenceMixIdeal.Read.val_main_v25 (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg4)),
    fun c => Cert.ReferenceMixIdeal.Read.val_main_v35 (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg5)),
    (θ_run Cert.KernelMixIdeal.defs _ _).mono (fun r h c => ⟨(h c).1.trans (final_m m c), (h c).2.1.trans (final_w m c), (h c).2.2.1.trans (final_a m c), (h c).2.2.2.1.trans (final_g m c), (h c).2.2.2.2⟩) (run_blocks m ρ),
    (θ_run Cert.ReferenceMixIdeal.defs _ _).mono (fun r h c => ⟨(h c).1.trans ((Cert.ReferenceMixIdeal.Read.val_main_v16_eq _ _ _).trans (by rw [(hagree c).1, (hagree c).2.1, (hagree c).2.2.1])), (h c).2.1.trans ((Cert.ReferenceMixIdeal.Read.val_main_v21_eq _ _ _ _).trans (by rw [(hagree c).1, (hagree c).2.1, (hagree c).2.2.1, (hagree c).2.2.2.1])), (h c).2.2.1.trans ((Cert.ReferenceMixIdeal.Read.val_main_v25_eq _ _ _ _).trans (by rw [(hagree c).1, (hagree c).2.1, (hagree c).2.2.1, (hagree c).2.2.2.2.1])), (h c).2.2.2.1.trans ((Cert.ReferenceMixIdeal.Read.val_main_v35_eq _ _ _ _).trans (by rw [(hagree c).1, (hagree c).2.1, (hagree c).2.2.1, (hagree c).2.2.2.2.2])), (h c).2.2.2.2⟩) (Cert.ReferenceMixIdeal.Value.run m' ρ')⟩

end Cert.Proof.Mix

end
-- ==== Proof.lean ====
/-
  The certificate. For the attention mixer's core, the frames of its three programs, the kernel's two texts being one, and the equation between what the
  kernel and the reference compute over the idealized reals; the same of each other call stands in that call's module, and the last theorem collects all.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelUp
public import proofs.«01_k».proof.Proof.Gen.KernelUpIdeal
public import proofs.«01_k».proof.Proof.Gen.ReferenceUpIdeal
public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelDown
public import proofs.«01_k».proof.Proof.Gen.KernelDownIdeal
public import proofs.«01_k».proof.Proof.Gen.ReferenceDownIdeal
public import proofs.«01_k».proof.Proof.Gen.KernelDownIdeal.Frame
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelQkv
public import proofs.«01_k».proof.Proof.Gen.KernelQkvIdeal
public import proofs.«01_k».proof.Proof.Gen.ReferenceQkvIdeal
public import proofs.«01_k».proof.Proof.Gen.KernelQkvIdeal.Frame
public import proofs.«01_k».proof.Proof.Gen.KernelQkvIdeal.Value
public import proofs.«01_k».proof.Proof.Gen.ReferenceQkvIdeal.Run
public import proofs.«01_k».proof.Proof.Gen.ReferenceQkvIdeal.Read
public import proofs.«01_k».proof.Proof.Gen.KernelRkv
public import proofs.«01_k».proof.Proof.Gen.KernelRkvIdeal
public import proofs.«01_k».proof.Proof.Gen.ReferenceRkvIdeal
public import proofs.«01_k».proof.Proof.Gen.KernelRkvIdeal.Frame
public import proofs.«01_k».proof.Proof.Gen.ReferenceRkvIdeal.Run
public import proofs.«01_k».proof.Proof.Gen.ReferenceRkvIdeal.Read
public import proofs.«01_k».proof.Proof.Gen.KernelOut
public import proofs.«01_k».proof.Proof.Gen.KernelOutIdeal
public import proofs.«01_k».proof.Proof.Gen.ReferenceOutIdeal
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelNorm
public import proofs.«01_k».proof.Proof.Gen.KernelNormIdeal
public import proofs.«01_k».proof.Proof.Gen.ReferenceNormIdeal
public import proofs.«01_k».proof.Proof.Gen.KernelNormIdeal.Frame
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Gen.KernelLast
public import proofs.«01_k».proof.Proof.Gen.KernelLastIdeal
public import proofs.«01_k».proof.Proof.Gen.ReferenceLastIdeal
public import proofs.«01_k».proof.Proof.Gen.KernelLastIdeal.Frame
public import proofs.«01_k».proof.Proof.Gen.KernelLastIdeal.Value
public import proofs.«01_k».proof.Proof.Gen.ReferenceLastIdeal.Run
public import proofs.«01_k».proof.Proof.Gen.ReferenceLastIdeal.Read
public import proofs.«01_k».proof.Proof.Gen.KernelMix
public import proofs.«01_k».proof.Proof.Gen.KernelMixIdeal
public import proofs.«01_k».proof.Proof.Gen.ReferenceMixIdeal
public import proofs.«01_k».proof.Proof.Gen.KernelMixIdeal.Frame
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Body
public import proofs.«01_k».proof.Proof.Result
public import proofs.«01_k».proof.Proof.Up
public import proofs.«01_k».proof.Proof.Down
public import proofs.«01_k».proof.Proof.Qkv
public import proofs.«01_k».proof.Proof.Rkv
public import proofs.«01_k».proof.Proof.Out
public import proofs.«01_k».proof.Proof.Norm
public import proofs.«01_k».proof.Proof.Last
public import proofs.«01_k».proof.Proof.Mix

@[expose] public section

noncomputable section

namespace Cert.Proof

open Idealize.ShloMosaic Idealize.SL.Sem

/-! ## The frames -/

/-- The kernel and the idealized kernel call the same bodies. -/
theorem defs₀_eq : Cert.KernelIdeal.defs₀ (F := Bits) = Cert.Kernel.defs₀ (F := Bits) := by
  unfold Cert.KernelIdeal.defs₀ Cert.Kernel.defs₀
  congr 1
  funext l a
  match l, a with
  | 0, (t, s) => rfl
  | ⟨_ + 1, h⟩, _ => exact absurd h (Nat.not_lt.2 (Nat.le_add_left _ _))

/-- So they are the same programs but for the text. -/
theorem defs_eq : Cert.KernelIdeal.defs (F := Bits) = Cert.Kernel.defs (F := Bits) := by
  unfold Cert.KernelIdeal.defs Cert.Kernel.defs
  exact congrArg (Pipeline.defs (Cert.Kernel.pcfgs (F := Bits))) defs₀_eq

/-- The kernel as compiled: every execution terminates, its input untouched, its counters back at zero. Its text is the idealized kernel's, read
    at the machine's own floats. -/
theorem frame_kernel : Cert.quiescent_Kernel := fun m ρ _ => by
  rw [← defs_eq]
  exact run_main (F := Bits) m ρ
/-- The idealized kernel likewise. -/
theorem frame_kernelIdeal : Cert.quiescent_KernelIdeal := fun m ρ _ => run_main m ρ
/-- The reference likewise; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The value: from equal operands the kernel and the reference end with equal results, over the extended reals. -/
theorem value : Cert.algebraic_KernelIdeal_ReferenceIdeal := fun m ρ m' ρ' _ hagree =>
  ⟨fun c => goal m c, run_result m ρ,
    (θ_run Cert.ReferenceIdeal.defs _ _).mono (fun r h c => ⟨(h c).1.trans ((Cert.ReferenceIdeal.Read.val_main_v30_eq m' c).trans
      (congrArg (Cert.ReferenceIdeal.Read.val_main_v30 (F := Ideal)) (hagree c))), (h c).2⟩) (Cert.ReferenceIdeal.Value.run m' ρ')⟩

/-- Everything claimed, of the attention mixer's core and of the eight other calls. -/
theorem claim : Cert.Claim := ⟨Cert.Kernel.Gen.facts, Cert.KernelIdeal.Gen.facts, Cert.ReferenceIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelQkv.Gen.facts, Cert.KernelQkvIdeal.Gen.facts, Cert.ReferenceQkvIdeal.Gen.facts, Cert.KernelRkv.Gen.facts, Cert.KernelRkvIdeal.Gen.facts, Cert.ReferenceRkvIdeal.Gen.facts, Cert.KernelOut.Gen.facts, Cert.KernelOutIdeal.Gen.facts, Cert.ReferenceOutIdeal.Gen.facts, Cert.KernelNorm.Gen.facts, Cert.KernelNormIdeal.Gen.facts, Cert.ReferenceNormIdeal.Gen.facts, Cert.KernelLast.Gen.facts, Cert.KernelLastIdeal.Gen.facts, Cert.ReferenceLastIdeal.Gen.facts, Cert.KernelMix.Gen.facts, Cert.KernelMixIdeal.Gen.facts, Cert.ReferenceMixIdeal.Gen.facts, by
  refine ⟨frame_kernel, frame_kernelIdeal, frame_reference,
    Up.frame_kernel, Up.frame_kernelIdeal, Up.frame_reference,
    Down.frame_kernel, Down.frame_kernelIdeal, Down.frame_reference,
    Qkv.frame_kernel, Qkv.frame_kernelIdeal, Qkv.frame_reference,
    Rkv.frame_kernel, Rkv.frame_kernelIdeal, Rkv.frame_reference,
    Out.frame_kernel, Out.frame_kernelIdeal, Out.frame_reference,
    Norm.frame_kernel, Norm.frame_kernelIdeal, Norm.frame_reference,
    Last.frame_kernel, Last.frame_kernelIdeal, Last.frame_reference,
    Mix.frame_kernel, Mix.frame_kernelIdeal, Mix.frame_reference,
    trivial, value, trivial, Up.value, trivial, Down.value, trivial, Qkv.value, trivial, Rkv.value, trivial, Out.value, trivial, Norm.value, trivial, Last.value, trivial, Mix.value⟩⟩

end Cert.Proof

end
